-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![8192]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![768, 512]⟩ ⟨2, ![768, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S768x512 : Shape := ⟨2, ![768, 512]⟩
abbrev S512 : Shape := ⟨1, ![512]⟩
abbrev S_ : Shape := ⟨0, ![]⟩

class Facts : Prop where
  bcast_S_S768x512 : S_.BroadcastsInDim S768x512 (![] : Fin 0 → Fin S768x512.rank)
  reducesTo_S768x512_S_d0_1 : S768x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S768x512 .f32) (main_arg1 : FVec F S512 .f32) (main_arg2 : FVec F S512 .f32) : IVec S_ 1 :=
  let main_v0 : FVec F S768x512 .f32 := Host.absf main_arg0
  let main_cst : FVec F S_ .f32 := constant S_ .f32 0x7F800000#32
  let main_v1 : FVec F S768x512 .f32 := broadcastInDim S768x512 ![] bcast_S_S768x512 main_cst
  let main_v2 : IVec S768x512 1 := cmpf .olt main_v0 main_v1
  let main_c : IVec S_ 1 := constantI S_ 1 1#1
  let main_v3 : IVec S_ 1 := (fun x v => Host.reduce IntOp.andi x v reducesTo_S768x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_ReferenceIdeal.lean ====
abbrev S768x8192 : Shape := ⟨2, ![768, 8192]⟩
abbrev S8192 : Shape := ⟨1, ![8192]⟩
abbrev S_ : Shape := ⟨0, ![]⟩

class Facts : Prop where
  bcast_S_S768x8192 : S_.BroadcastsInDim S768x8192 (![] : Fin 0 → Fin S768x8192.rank)
  reducesTo_S768x8192_S_d0_1 : S768x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S768x8192 .f32) (main_arg1 : FVec F S8192 .f32) (main_arg2 : FVec F S8192 .f32) : IVec S_ 1 :=
  let main_v0 : FVec F S768x8192 .f32 := Host.absf main_arg0
  let main_cst : FVec F S_ .f32 := constant S_ .f32 0x7F800000#32
  let main_v1 : FVec F S768x8192 .f32 := broadcastInDim S768x8192 ![] bcast_S_S768x8192 main_cst
  let main_v2 : IVec S768x8192 1 := cmpf .olt main_v0 main_v1
  let main_c : IVec S_ 1 := constantI S_ 1 1#1
  let main_v3 : IVec S_ 1 := (fun x v => Host.reduce IntOp.andi x v reducesTo_S768x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S768x512 : Shape := ⟨2, ![768, 512]⟩
abbrev S512 : Shape := ⟨1, ![512]⟩
abbrev S1x512 : Shape := ⟨2, ![1, 512]⟩
abbrev S16x2x768 : Shape := ⟨3, ![16, 2, 768]⟩
abbrev S16 : Shape := ⟨1, ![16]⟩
abbrev S4 : Shape := ⟨1, ![4]⟩
abbrev S_ : Shape := ⟨0, ![]⟩
abbrev S1 : Shape := ⟨1, ![1]⟩
abbrev S384x512 : Shape := ⟨2, ![384, 512]⟩
abbrev S384 : Shape := ⟨1, ![384]⟩
abbrev S1x1x384 : Shape := ⟨3, ![1, 1, 384]⟩
abbrev S1x2x768 : Shape := ⟨3, ![1, 2, 768]⟩
abbrev S2x768 : Shape := ⟨2, ![2, 768]⟩
abbrev S1x768 : Shape := ⟨2, ![1, 768]⟩
abbrev S768 : Shape := ⟨1, ![768]⟩
abbrev S384x1 : Shape := ⟨2, ![384, 1]⟩

abbrev nBuf : Space → Nat
  | .hbm => 6
  | .vmem => 5
  | .smem => 0
  | _ => 0

abbrev bufTy : (tb : Table) → Fin (tcTables nBuf tb) → BufTy
  | .hbm, ⟨0, _⟩ => ⟨S768x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S768x512, .f32⟩
  | .local _ .vmem, ⟨0, _⟩ => ⟨S1x512, .f32⟩
  | .local _ .vmem, ⟨1, _⟩ => ⟨S1x512, .f32⟩
  | .local _ .vmem, ⟨2, _⟩ => ⟨S768x512, .f32⟩
  | .local _ .vmem, ⟨3, _⟩ => ⟨S768x512, .f32⟩
  | .local _ .vmem, ⟨4, _⟩ => ⟨S16x2x768, .f32⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v213 : Index := Scalar.indexCast v2
  let c0_150 : Index := 0#32
  let c0_151 : Index := 0#32
  ![v213.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v219 : Index := Scalar.indexCast v2
  let c1 : Index := 1#32
  let c0_153 : Index := 0#32
  ![v219.toNat, 1, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : Index := Scalar.indexCast v2
  let c0_161 : Index := 0#32
  let c384_162 : Index := 384#32
  ![v229.toNat, 0, 384]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v235 : Index := Scalar.indexCast v2
  let c1_164 : Index := 1#32
  let c384_165 : Index := 384#32
  ![v235.toNat, 1, 384]
def k0_off5 (d0 : Dev nD) (c1_i32_167 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v239 : BitVec 32 := Scalar.addi v2 c1_i32_167
  let c16_i32_168 : BitVec 32 := 16#32
  let c0_i32_169 : BitVec 32 := 0#32
  let v240 : BitVec 1 := Scalar.cmpi .eq c16_i32_168 c0_i32_169
  let c1_i32_170 : BitVec 32 := 1#32
  let v241 : BitVec 32 := Scalar.select v240 c1_i32_170 c16_i32_168
  let v242 : BitVec 32 := Scalar.remsi v239 v241
  let c0_i32_172 : BitVec 32 := 0#32
  let v244 : BitVec 1 := Scalar.cmpi .slt v242 c0_i32_172
  let c0_i32_173 : BitVec 32 := 0#32
  let v245 : BitVec 1 := Scalar.cmpi .slt v241 c0_i32_173
  let v246 : BitVec 1 := Scalar.xori v244 v245
  let c0_i32_171 : BitVec 32 := 0#32
  let v243 : BitVec 1 := Scalar.cmpi .ne v242 c0_i32_171
  let v247 : BitVec 1 := Scalar.andi v246 v243
  let v248 : BitVec 32 := Scalar.addi v242 v241
  let v249 : BitVec 32 := Scalar.select v247 v248 v242
  ![v249.toNat]
def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_176 : BitVec 32 := 0#32
  let c0_i32_177 : BitVec 32 := 0#32
  ![v2.toNat, 0, 0]
def k0_dev16 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_167 : BitVec 32 := 1#32
  let v239 : BitVec 32 := Scalar.addi v2 c1_i32_167
  let c16_i32_168 : BitVec 32 := 16#32
  let c0_i32_169 : BitVec 32 := 0#32
  let v240 : BitVec 1 := Scalar.cmpi .eq c16_i32_168 c0_i32_169
  let c1_i32_170 : BitVec 32 := 1#32
  let v241 : BitVec 32 := Scalar.select v240 c1_i32_170 c16_i32_168
  let v242 : BitVec 32 := Scalar.remsi v239 v241
  let c0_i32_172 : BitVec 32 := 0#32
  let v244 : BitVec 1 := Scalar.cmpi .slt v242 c0_i32_172
  let c0_i32_173 : BitVec 32 := 0#32
  let v245 : BitVec 1 := Scalar.cmpi .slt v241 c0_i32_173
  let v246 : BitVec 1 := Scalar.xori v244 v245
  let c0_i32_171 : BitVec 32 := 0#32
  let v243 : BitVec 1 := Scalar.cmpi .ne v242 c0_i32_171
  let v247 : BitVec 1 := Scalar.andi v246 v243
  let v248 : BitVec 32 := Scalar.addi v242 v241
  let v249 : BitVec 32 := Scalar.select v247 v248 v242
  let c1_i32_174 : BitVec 32 := 1#32
  let v250 : BitVec 32 := Scalar.muli v249 c1_i32_174
  let v251 : BitVec 32 := Scalar.addi c0_i32_175 v250
  v251.toNat
def k0_dev17 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_180 : BitVec 32 := 2#32
  let v260 : BitVec 32 := Scalar.addi v2 c2_i32_180
  let c16_i32_181 : BitVec 32 := 16#32
  let c0_i32_182 : BitVec 32 := 0#32
  let v261 : BitVec 1 := Scalar.cmpi .eq c16_i32_181 c0_i32_182
  let c1_i32_183 : BitVec 32 := 1#32
  let v262 : BitVec 32 := Scalar.select v261 c1_i32_183 c16_i32_181
  let v263 : BitVec 32 := Scalar.remsi v260 v262
  let c0_i32_185 : BitVec 32 := 0#32
  let v265 : BitVec 1 := Scalar.cmpi .slt v263 c0_i32_185
  let c0_i32_186 : BitVec 32 := 0#32
  let v266 : BitVec 1 := Scalar.cmpi .slt v262 c0_i32_186
  let v267 : BitVec 1 := Scalar.xori v265 v266
  let c0_i32_184 : BitVec 32 := 0#32
  let v264 : BitVec 1 := Scalar.cmpi .ne v263 c0_i32_184
  let v268 : BitVec 1 := Scalar.andi v267 v264
  let v269 : BitVec 32 := Scalar.addi v263 v262
  let v270 : BitVec 32 := Scalar.select v268 v269 v263
  let c1_i32_187 : BitVec 32 := 1#32
  let v271 : BitVec 32 := Scalar.muli v270 c1_i32_187
  let v272 : BitVec 32 := Scalar.addi c0_i32_188 v271
  v272.toNat
def k0_dev18 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_193 : BitVec 32 := 3#32
  let v281 : BitVec 32 := Scalar.addi v2 c3_i32_193
  let c16_i32_194 : BitVec 32 := 16#32
  let c0_i32_195 : BitVec 32 := 0#32
  let v282 : BitVec 1 := Scalar.cmpi .eq c16_i32_194 c0_i32_195
  let c1_i32_196 : BitVec 32 := 1#32
  let v283 : BitVec 32 := Scalar.select v282 c1_i32_196 c16_i32_194
  let v284 : BitVec 32 := Scalar.remsi v281 v283
  let c0_i32_198 : BitVec 32 := 0#32
  let v286 : BitVec 1 := Scalar.cmpi .slt v284 c0_i32_198
  let c0_i32_199 : BitVec 32 := 0#32
  let v287 : BitVec 1 := Scalar.cmpi .slt v283 c0_i32_199
  let v288 : BitVec 1 := Scalar.xori v286 v287
  let c0_i32_197 : BitVec 32 := 0#32
  let v285 : BitVec 1 := Scalar.cmpi .ne v284 c0_i32_197
  let v289 : BitVec 1 := Scalar.andi v288 v285
  let v290 : BitVec 32 := Scalar.addi v284 v283
  let v291 : BitVec 32 := Scalar.select v289 v290 v284
  let c1_i32_200 : BitVec 32 := 1#32
  let v292 : BitVec 32 := Scalar.muli v291 c1_i32_200
  let v293 : BitVec 32 := Scalar.addi c0_i32_201 v292
  v293.toNat
def k0_dev19 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_206 : BitVec 32 := 4#32
  let v302 : BitVec 32 := Scalar.addi v2 c4_i32_206
  let c16_i32_207 : BitVec 32 := 16#32
  let c0_i32_208 : BitVec 32 := 0#32
  let v303 : BitVec 1 := Scalar.cmpi .eq c16_i32_207 c0_i32_208
  let c1_i32_209 : BitVec 32 := 1#32
  let v304 : BitVec 32 := Scalar.select v303 c1_i32_209 c16_i32_207
  let v305 : BitVec 32 := Scalar.remsi v302 v304
  let c0_i32_211 : BitVec 32 := 0#32
  let v307 : BitVec 1 := Scalar.cmpi .slt v305 c0_i32_211
  let c0_i32_212 : BitVec 32 := 0#32
  let v308 : BitVec 1 := Scalar.cmpi .slt v304 c0_i32_212
  let v309 : BitVec 1 := Scalar.xori v307 v308
  let c0_i32_210 : BitVec 32 := 0#32
  let v306 : BitVec 1 := Scalar.cmpi .ne v305 c0_i32_210
  let v310 : BitVec 1 := Scalar.andi v309 v306
  let v311 : BitVec 32 := Scalar.addi v305 v304
  let v312 : BitVec 32 := Scalar.select v310 v311 v305
  let c1_i32_213 : BitVec 32 := 1#32
  let v313 : BitVec 32 := Scalar.muli v312 c1_i32_213
  let v314 : BitVec 32 := Scalar.addi c0_i32_214 v313
  v314.toNat
def k0_dev20 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_219 : BitVec 32 := 5#32
  let v323 : BitVec 32 := Scalar.addi v2 c5_i32_219
  let c16_i32_220 : BitVec 32 := 16#32
  let c0_i32_221 : BitVec 32 := 0#32
  let v324 : BitVec 1 := Scalar.cmpi .eq c16_i32_220 c0_i32_221
  let c1_i32_222 : BitVec 32 := 1#32
  let v325 : BitVec 32 := Scalar.select v324 c1_i32_222 c16_i32_220
  let v326 : BitVec 32 := Scalar.remsi v323 v325
  let c0_i32_224 : BitVec 32 := 0#32
  let v328 : BitVec 1 := Scalar.cmpi .slt v326 c0_i32_224
  let c0_i32_225 : BitVec 32 := 0#32
  let v329 : BitVec 1 := Scalar.cmpi .slt v325 c0_i32_225
  let v330 : BitVec 1 := Scalar.xori v328 v329
  let c0_i32_223 : BitVec 32 := 0#32
  let v327 : BitVec 1 := Scalar.cmpi .ne v326 c0_i32_223
  let v331 : BitVec 1 := Scalar.andi v330 v327
  let v332 : BitVec 32 := Scalar.addi v326 v325
  let v333 : BitVec 32 := Scalar.select v331 v332 v326
  let c1_i32_226 : BitVec 32 := 1#32
  let v334 : BitVec 32 := Scalar.muli v333 c1_i32_226
  let v335 : BitVec 32 := Scalar.addi c0_i32_227 v334
  v335.toNat
def k0_dev21 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_232 : BitVec 32 := 6#32
  let v344 : BitVec 32 := Scalar.addi v2 c6_i32_232
  let c16_i32_233 : BitVec 32 := 16#32
  let c0_i32_234 : BitVec 32 := 0#32
  let v345 : BitVec 1 := Scalar.cmpi .eq c16_i32_233 c0_i32_234
  let c1_i32_235 : BitVec 32 := 1#32
  let v346 : BitVec 32 := Scalar.select v345 c1_i32_235 c16_i32_233
  let v347 : BitVec 32 := Scalar.remsi v344 v346
  let c0_i32_237 : BitVec 32 := 0#32
  let v349 : BitVec 1 := Scalar.cmpi .slt v347 c0_i32_237
  let c0_i32_238 : BitVec 32 := 0#32
  let v350 : BitVec 1 := Scalar.cmpi .slt v346 c0_i32_238
  let v351 : BitVec 1 := Scalar.xori v349 v350
  let c0_i32_236 : BitVec 32 := 0#32
  let v348 : BitVec 1 := Scalar.cmpi .ne v347 c0_i32_236
  let v352 : BitVec 1 := Scalar.andi v351 v348
  let v353 : BitVec 32 := Scalar.addi v347 v346
  let v354 : BitVec 32 := Scalar.select v352 v353 v347
  let c1_i32_239 : BitVec 32 := 1#32
  let v355 : BitVec 32 := Scalar.muli v354 c1_i32_239
  let v356 : BitVec 32 := Scalar.addi c0_i32_240 v355
  v356.toNat
def k0_dev22 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_245 : BitVec 32 := 7#32
  let v365 : BitVec 32 := Scalar.addi v2 c7_i32_245
  let c16_i32_246 : BitVec 32 := 16#32
  let c0_i32_247 : BitVec 32 := 0#32
  let v366 : BitVec 1 := Scalar.cmpi .eq c16_i32_246 c0_i32_247
  let c1_i32_248 : BitVec 32 := 1#32
  let v367 : BitVec 32 := Scalar.select v366 c1_i32_248 c16_i32_246
  let v368 : BitVec 32 := Scalar.remsi v365 v367
  let c0_i32_250 : BitVec 32 := 0#32
  let v370 : BitVec 1 := Scalar.cmpi .slt v368 c0_i32_250
  let c0_i32_251 : BitVec 32 := 0#32
  let v371 : BitVec 1 := Scalar.cmpi .slt v367 c0_i32_251
  let v372 : BitVec 1 := Scalar.xori v370 v371
  let c0_i32_249 : BitVec 32 := 0#32
  let v369 : BitVec 1 := Scalar.cmpi .ne v368 c0_i32_249
  let v373 : BitVec 1 := Scalar.andi v372 v369
  let v374 : BitVec 32 := Scalar.addi v368 v367
  let v375 : BitVec 32 := Scalar.select v373 v374 v368
  let c1_i32_252 : BitVec 32 := 1#32
  let v376 : BitVec 32 := Scalar.muli v375 c1_i32_252
  let v377 : BitVec 32 := Scalar.addi c0_i32_253 v376
  v377.toNat
def k0_dev23 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_258 : BitVec 32 := 8#32
  let v386 : BitVec 32 := Scalar.addi v2 c8_i32_258
  let c16_i32_259 : BitVec 32 := 16#32
  let c0_i32_260 : BitVec 32 := 0#32
  let v387 : BitVec 1 := Scalar.cmpi .eq c16_i32_259 c0_i32_260
  let c1_i32_261 : BitVec 32 := 1#32
  let v388 : BitVec 32 := Scalar.select v387 c1_i32_261 c16_i32_259
  let v389 : BitVec 32 := Scalar.remsi v386 v388
  let c0_i32_263 : BitVec 32 := 0#32
  let v391 : BitVec 1 := Scalar.cmpi .slt v389 c0_i32_263
  let c0_i32_264 : BitVec 32 := 0#32
  let v392 : BitVec 1 := Scalar.cmpi .slt v388 c0_i32_264
  let v393 : BitVec 1 := Scalar.xori v391 v392
  let c0_i32_262 : BitVec 32 := 0#32
  let v390 : BitVec 1 := Scalar.cmpi .ne v389 c0_i32_262
  let v394 : BitVec 1 := Scalar.andi v393 v390
  let v395 : BitVec 32 := Scalar.addi v389 v388
  let v396 : BitVec 32 := Scalar.select v394 v395 v389
  let c1_i32_265 : BitVec 32 := 1#32
  let v397 : BitVec 32 := Scalar.muli v396 c1_i32_265
  let v398 : BitVec 32 := Scalar.addi c0_i32_266 v397
  v398.toNat
def k0_dev24 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_271 : BitVec 32 := 9#32
  let v407 : BitVec 32 := Scalar.addi v2 c9_i32_271
  let c16_i32_272 : BitVec 32 := 16#32
  let c0_i32_273 : BitVec 32 := 0#32
  let v408 : BitVec 1 := Scalar.cmpi .eq c16_i32_272 c0_i32_273
  let c1_i32_274 : BitVec 32 := 1#32
  let v409 : BitVec 32 := Scalar.select v408 c1_i32_274 c16_i32_272
  let v410 : BitVec 32 := Scalar.remsi v407 v409
  let c0_i32_276 : BitVec 32 := 0#32
  let v412 : BitVec 1 := Scalar.cmpi .slt v410 c0_i32_276
  let c0_i32_277 : BitVec 32 := 0#32
  let v413 : BitVec 1 := Scalar.cmpi .slt v409 c0_i32_277
  let v414 : BitVec 1 := Scalar.xori v412 v413
  let c0_i32_275 : BitVec 32 := 0#32
  let v411 : BitVec 1 := Scalar.cmpi .ne v410 c0_i32_275
  let v415 : BitVec 1 := Scalar.andi v414 v411
  let v416 : BitVec 32 := Scalar.addi v410 v409
  let v417 : BitVec 32 := Scalar.select v415 v416 v410
  let c1_i32_278 : BitVec 32 := 1#32
  let v418 : BitVec 32 := Scalar.muli v417 c1_i32_278
  let v419 : BitVec 32 := Scalar.addi c0_i32_279 v418
  v419.toNat
def k0_dev25 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_284 : BitVec 32 := 10#32
  let v428 : BitVec 32 := Scalar.addi v2 c10_i32_284
  let c16_i32_285 : BitVec 32 := 16#32
  let c0_i32_286 : BitVec 32 := 0#32
  let v429 : BitVec 1 := Scalar.cmpi .eq c16_i32_285 c0_i32_286
  let c1_i32_287 : BitVec 32 := 1#32
  let v430 : BitVec 32 := Scalar.select v429 c1_i32_287 c16_i32_285
  let v431 : BitVec 32 := Scalar.remsi v428 v430
  let c0_i32_289 : BitVec 32 := 0#32
  let v433 : BitVec 1 := Scalar.cmpi .slt v431 c0_i32_289
  let c0_i32_290 : BitVec 32 := 0#32
  let v434 : BitVec 1 := Scalar.cmpi .slt v430 c0_i32_290
  let v435 : BitVec 1 := Scalar.xori v433 v434
  let c0_i32_288 : BitVec 32 := 0#32
  let v432 : BitVec 1 := Scalar.cmpi .ne v431 c0_i32_288
  let v436 : BitVec 1 := Scalar.andi v435 v432
  let v437 : BitVec 32 := Scalar.addi v431 v430
  let v438 : BitVec 32 := Scalar.select v436 v437 v431
  let c1_i32_291 : BitVec 32 := 1#32
  let v439 : BitVec 32 := Scalar.muli v438 c1_i32_291
  let v440 : BitVec 32 := Scalar.addi c0_i32_292 v439
  v440.toNat
def k0_dev26 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_297 : BitVec 32 := 11#32
  let v449 : BitVec 32 := Scalar.addi v2 c11_i32_297
  let c16_i32_298 : BitVec 32 := 16#32
  let c0_i32_299 : BitVec 32 := 0#32
  let v450 : BitVec 1 := Scalar.cmpi .eq c16_i32_298 c0_i32_299
  let c1_i32_300 : BitVec 32 := 1#32
  let v451 : BitVec 32 := Scalar.select v450 c1_i32_300 c16_i32_298
  let v452 : BitVec 32 := Scalar.remsi v449 v451
  let c0_i32_302 : BitVec 32 := 0#32
  let v454 : BitVec 1 := Scalar.cmpi .slt v452 c0_i32_302
  let c0_i32_303 : BitVec 32 := 0#32
  let v455 : BitVec 1 := Scalar.cmpi .slt v451 c0_i32_303
  let v456 : BitVec 1 := Scalar.xori v454 v455
  let c0_i32_301 : BitVec 32 := 0#32
  let v453 : BitVec 1 := Scalar.cmpi .ne v452 c0_i32_301
  let v457 : BitVec 1 := Scalar.andi v456 v453
  let v458 : BitVec 32 := Scalar.addi v452 v451
  let v459 : BitVec 32 := Scalar.select v457 v458 v452
  let c1_i32_304 : BitVec 32 := 1#32
  let v460 : BitVec 32 := Scalar.muli v459 c1_i32_304
  let v461 : BitVec 32 := Scalar.addi c0_i32_305 v460
  v461.toNat
def k0_dev27 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_310 : BitVec 32 := 12#32
  let v470 : BitVec 32 := Scalar.addi v2 c12_i32_310
  let c16_i32_311 : BitVec 32 := 16#32
  let c0_i32_312 : BitVec 32 := 0#32
  let v471 : BitVec 1 := Scalar.cmpi .eq c16_i32_311 c0_i32_312
  let c1_i32_313 : BitVec 32 := 1#32
  let v472 : BitVec 32 := Scalar.select v471 c1_i32_313 c16_i32_311
  let v473 : BitVec 32 := Scalar.remsi v470 v472
  let c0_i32_315 : BitVec 32 := 0#32
  let v475 : BitVec 1 := Scalar.cmpi .slt v473 c0_i32_315
  let c0_i32_316 : BitVec 32 := 0#32
  let v476 : BitVec 1 := Scalar.cmpi .slt v472 c0_i32_316
  let v477 : BitVec 1 := Scalar.xori v475 v476
  let c0_i32_314 : BitVec 32 := 0#32
  let v474 : BitVec 1 := Scalar.cmpi .ne v473 c0_i32_314
  let v478 : BitVec 1 := Scalar.andi v477 v474
  let v479 : BitVec 32 := Scalar.addi v473 v472
  let v480 : BitVec 32 := Scalar.select v478 v479 v473
  let c1_i32_317 : BitVec 32 := 1#32
  let v481 : BitVec 32 := Scalar.muli v480 c1_i32_317
  let v482 : BitVec 32 := Scalar.addi c0_i32_318 v481
  v482.toNat
def k0_dev28 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_323 : BitVec 32 := 13#32
  let v491 : BitVec 32 := Scalar.addi v2 c13_i32_323
  let c16_i32_324 : BitVec 32 := 16#32
  let c0_i32_325 : BitVec 32 := 0#32
  let v492 : BitVec 1 := Scalar.cmpi .eq c16_i32_324 c0_i32_325
  let c1_i32_326 : BitVec 32 := 1#32
  let v493 : BitVec 32 := Scalar.select v492 c1_i32_326 c16_i32_324
  let v494 : BitVec 32 := Scalar.remsi v491 v493
  let c0_i32_328 : BitVec 32 := 0#32
  let v496 : BitVec 1 := Scalar.cmpi .slt v494 c0_i32_328
  let c0_i32_329 : BitVec 32 := 0#32
  let v497 : BitVec 1 := Scalar.cmpi .slt v493 c0_i32_329
  let v498 : BitVec 1 := Scalar.xori v496 v497
  let c0_i32_327 : BitVec 32 := 0#32
  let v495 : BitVec 1 := Scalar.cmpi .ne v494 c0_i32_327
  let v499 : BitVec 1 := Scalar.andi v498 v495
  let v500 : BitVec 32 := Scalar.addi v494 v493
  let v501 : BitVec 32 := Scalar.select v499 v500 v494
  let c1_i32_330 : BitVec 32 := 1#32
  let v502 : BitVec 32 := Scalar.muli v501 c1_i32_330
  let v503 : BitVec 32 := Scalar.addi c0_i32_331 v502
  v503.toNat
def k0_dev29 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_336 : BitVec 32 := 14#32
  let v512 : BitVec 32 := Scalar.addi v2 c14_i32_336
  let c16_i32_337 : BitVec 32 := 16#32
  let c0_i32_338 : BitVec 32 := 0#32
  let v513 : BitVec 1 := Scalar.cmpi .eq c16_i32_337 c0_i32_338
  let c1_i32_339 : BitVec 32 := 1#32
  let v514 : BitVec 32 := Scalar.select v513 c1_i32_339 c16_i32_337
  let v515 : BitVec 32 := Scalar.remsi v512 v514
  let c0_i32_341 : BitVec 32 := 0#32
  let v517 : BitVec 1 := Scalar.cmpi .slt v515 c0_i32_341
  let c0_i32_342 : BitVec 32 := 0#32
  let v518 : BitVec 1 := Scalar.cmpi .slt v514 c0_i32_342
  let v519 : BitVec 1 := Scalar.xori v517 v518
  let c0_i32_340 : BitVec 32 := 0#32
  let v516 : BitVec 1 := Scalar.cmpi .ne v515 c0_i32_340
  let v520 : BitVec 1 := Scalar.andi v519 v516
  let v521 : BitVec 32 := Scalar.addi v515 v514
  let v522 : BitVec 32 := Scalar.select v520 v521 v515
  let c1_i32_343 : BitVec 32 := 1#32
  let v523 : BitVec 32 := Scalar.muli v522 c1_i32_343
  let v524 : BitVec 32 := Scalar.addi c0_i32_344 v523
  v524.toNat
def k0_dev30 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_349 : BitVec 32 := 15#32
  let v533 : BitVec 32 := Scalar.addi v2 c15_i32_349
  let c16_i32_350 : BitVec 32 := 16#32
  let c0_i32_351 : BitVec 32 := 0#32
  let v534 : BitVec 1 := Scalar.cmpi .eq c16_i32_350 c0_i32_351
  let c1_i32_352 : BitVec 32 := 1#32
  let v535 : BitVec 32 := Scalar.select v534 c1_i32_352 c16_i32_350
  let v536 : BitVec 32 := Scalar.remsi v533 v535
  let c0_i32_354 : BitVec 32 := 0#32
  let v538 : BitVec 1 := Scalar.cmpi .slt v536 c0_i32_354
  let c0_i32_355 : BitVec 32 := 0#32
  let v539 : BitVec 1 := Scalar.cmpi .slt v535 c0_i32_355
  let v540 : BitVec 1 := Scalar.xori v538 v539
  let c0_i32_353 : BitVec 32 := 0#32
  let v537 : BitVec 1 := Scalar.cmpi .ne v536 c0_i32_353
  let v541 : BitVec 1 := Scalar.andi v540 v537
  let v542 : BitVec 32 := Scalar.addi v536 v535
  let v543 : BitVec 32 := Scalar.select v541 v542 v536
  let c1_i32_356 : BitVec 32 := 1#32
  let v544 : BitVec 32 := Scalar.muli v543 c1_i32_356
  let v545 : BitVec 32 := Scalar.addi c0_i32_357 v544
  v545.toNat
def k0_off8 (d0 : Dev nD) (c1_i32_368 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v563 : BitVec 32 := Scalar.addi v2 c1_i32_368
  let c16_i32_369 : BitVec 32 := 16#32
  let c0_i32_370 : BitVec 32 := 0#32
  let v564 : BitVec 1 := Scalar.cmpi .eq c16_i32_369 c0_i32_370
  let c1_i32_371 : BitVec 32 := 1#32
  let v565 : BitVec 32 := Scalar.select v564 c1_i32_371 c16_i32_369
  let v566 : BitVec 32 := Scalar.remsi v563 v565
  let c0_i32_373 : BitVec 32 := 0#32
  let v568 : BitVec 1 := Scalar.cmpi .slt v566 c0_i32_373
  let c0_i32_374 : BitVec 32 := 0#32
  let v569 : BitVec 1 := Scalar.cmpi .slt v565 c0_i32_374
  let v570 : BitVec 1 := Scalar.xori v568 v569
  let c0_i32_372 : BitVec 32 := 0#32
  let v567 : BitVec 1 := Scalar.cmpi .ne v566 c0_i32_372
  let v571 : BitVec 1 := Scalar.andi v570 v567
  let v572 : BitVec 32 := Scalar.addi v566 v565
  let v573 : BitVec 32 := Scalar.select v571 v572 v566
  let c0_i32_377 : BitVec 32 := 0#32
  let c0_i32_378 : BitVec 32 := 0#32
  ![v573.toNat, 0, 0]
abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S768x8192 : Shape := ⟨2, ![768, 8192]⟩
abbrev S8192 : Shape := ⟨1, ![8192]⟩
abbrev S_ : Shape := ⟨0, ![]⟩
abbrev S768 : Shape := ⟨1, ![768]⟩
abbrev S768x1 : Shape := ⟨2, ![768, 1]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S768x8192, .f32⟩
  | .hbm, ⟨1, _⟩ => ⟨S8192, .f32⟩
  | .hbm, ⟨2, _⟩ => ⟨S8192, .f32⟩
  | .hbm, ⟨3, _⟩ => ⟨S_, .f32⟩
  | .hbm, ⟨4, _⟩ => ⟨S768, .f32⟩
  | .hbm, ⟨5, _⟩ => ⟨S768x1, .f32⟩
  | .hbm, ⟨6, _⟩ => ⟨S_, .f32⟩
  | .hbm, ⟨7, _⟩ => ⟨S768x1, .f32⟩
  | .hbm, ⟨8, _⟩ => ⟨S768x1, .f32⟩
  | .hbm, ⟨9, _⟩ => ⟨S_, .i32⟩
  | .hbm, ⟨10, _⟩ => ⟨S_, .f32⟩
  | .hbm, ⟨11, _⟩ => ⟨S768, .f32⟩
  | .hbm, ⟨12, _⟩ => ⟨S768x1, .f32⟩
  | .hbm, ⟨13, _⟩ => ⟨S_, .f32⟩
  | .hbm, ⟨14, _⟩ => ⟨S768x1, .f32⟩
  | .hbm, ⟨15, _⟩ => ⟨S768x1, .f32⟩
  | .hbm, ⟨16, _⟩ => ⟨S768x8192, .f32⟩
  | .hbm, ⟨17, _⟩ => ⟨S768x8192, .f32⟩
  | .hbm, ⟨18, _⟩ => ⟨S768x8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S768, .f32⟩
  | .hbm, ⟨24, _⟩ => ⟨S768x1, .f32⟩
  | .hbm, ⟨25, _⟩ => ⟨S768x1, .f32⟩
  | .hbm, ⟨26, _⟩ => ⟨S768x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S768x1, .f32⟩
  | .hbm, ⟨32, _⟩ => ⟨S768x1, .f32⟩
  | .hbm, ⟨33, _⟩ => ⟨S768x8192, .f32⟩
  | .hbm, ⟨34, _⟩ => ⟨S768x8192, .f32⟩
  | .hbm, ⟨35, _⟩ => ⟨S1x8192, .f32⟩
  | .hbm, ⟨36, _⟩ => ⟨S768x8192, .f32⟩
  | .hbm, ⟨37, _⟩ => ⟨S768x8192, .f32⟩
  | .hbm, ⟨38, _⟩ => ⟨S_, .f32⟩
  | .hbm, ⟨39, _⟩ => ⟨S768x1, .f32⟩
  | .hbm, ⟨40, _⟩ => ⟨S768x1, .f32⟩
  | .hbm, ⟨41, _⟩ => ⟨S768x1, .f32⟩
  | .hbm, ⟨42, _⟩ => ⟨S768x8192, .f32⟩
  | .hbm, ⟨43, _⟩ => ⟨S768x8192, .f32⟩
  | .hbm, ⟨44, _⟩ => ⟨S1x8192, .f32⟩
  | .hbm, ⟨45, _⟩ => ⟨S768x8192, .f32⟩
  | .hbm, ⟨46, _⟩ => ⟨S768x8192, .f32⟩
  | _, _ => ⟨S768x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.TalkIdeal.lean ====
/-
  The protocol by which the sixteen devices exchange their row statistics: peers, semaphore cells, contents, schedule.

  Every device signals the barrier cell of each of its fifteen peers, handing over the slot of its own statistics buffer that the
  peer will write. It waits for fifteen units on its own barrier cell, copies its own slot into that same slot of every peer, waits
  for the fifteen slots its peers write, and at the end for its own fifteen copies to have been sent. Two local copies bring the
  input in and two bring the output out. Each duty is named by the device that pays it.
-/
module

public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.StableHlo
public import Idealize.ShloMosaic.Lib.Tactic
public import Idealize.ShloMosaic.PureOps
public import Idealize.ShloMosaic.Lib.Pipeline.RegionTalk
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Peers -/

/-- The device `j + 1` places after `c`, round the sixteen. -/
def peer (c : Dev nD) (j : Fin 15) : Dev nD := ⟨(c.val + (j.val + 1)) % 16, Nat.mod_lt _ (by decide)⟩

/-- The peers still to be served when `k` of them have been. -/
def rem (c : Dev nD) (k : ℕ) : Finset (Dev nD) := Finset.univ.filter fun d => k < (d.val + (16 - c.val)) % 16
/-- The peers served when `k` of them have been. -/
def don (c : Dev nD) (k : ℕ) : Finset (Dev nD) :=
  Finset.univ.filter fun d => d ≠ c ∧ (d.val + (16 - c.val)) % 16 ≤ k

theorem rem_zero : ∀ c : Dev nD, rem c 0 = Finset.univ.erase c := by decide +kernel
theorem rem_all : ∀ c : Dev nD, rem c 15 = ∅ := by decide +kernel
theorem rem_step : ∀ (c : Dev nD) (k : Fin 15), rem c k.val = insert (peer c k) (rem c (k.val + 1)) := by decide +kernel
theorem rem_notMem : ∀ (c : Dev nD) (k : Fin 15), peer c k ∉ rem c (k.val + 1) := by decide +kernel
theorem don_zero : ∀ c : Dev nD, don c 0 = ∅ := by decide +kernel
theorem don_all : ∀ c : Dev nD, don c 15 = Finset.univ.erase c := by decide +kernel
theorem don_step : ∀ (c : Dev nD) (k : Fin 15), don c (k.val + 1) = insert (peer c k) (don c k.val) := by decide +kernel
theorem don_notMem : ∀ (c : Dev nD) (k : Fin 15), peer c k ∉ don c k.val := by decide +kernel
theorem peer_ne : ∀ (c : Dev nD) (k : Fin 15), peer c k ≠ c := by decide +kernel

/-! ## Semaphores -/

abbrev barS : Sem sig := (SemArray.scalar (d := ![]) (sig.barrier 0 rfl) : Sems sig S_).sem

def sendS (p : Dev nD) : DmaSem sig := ⟨2 + p.val, by have := p.isLt; show 2 + p.val < 38; unfold nD at this; omega⟩
def recvS (s : Dev nD) : DmaSem sig := ⟨18 + s.val, by have := s.isLt; show 18 + s.val < 38; unfold nD at this; omega⟩
def copyS (i : Fin 4) : DmaSem sig := ⟨34 + i.val, by have := i.isLt; show 34 + i.val < 38; omega⟩

/-- What a semaphore is used for. -/
inductive Role where
  | bar
  | send (p : Dev nD)
  | recv (s : Dev nD)
  | copy (i : Fin 4)
  | other
deriving DecidableEq

def role : SemLoc sig → Role
  | .reg _ => .bar
  | .dma i =>
    if i.val < 2 then .other
    else if i.val < 18 then .send ⟨(i.val - 2) % 16, Nat.mod_lt _ (by decide)⟩
    else if i.val < 34 then .recv ⟨(i.val - 18) % 16, Nat.mod_lt _ (by decide)⟩
    else .copy ⟨(i.val - 34) % 4, Nat.mod_lt _ (by decide)⟩

theorem role_bar : role (.reg barS) = .bar := rfl
theorem role_send : ∀ p : Dev nD, role (.dma (sendS p)) = .send p := by decide +kernel
theorem role_recv : ∀ p : Dev nD, role (.dma (recvS p)) = .recv p := by decide +kernel
theorem role_copy : ∀ p : Fin 4, role (.dma (copyS p)) = .copy p := by decide +kernel

abbrev barCell (c : Dev nD) : GSem nD τ sig := ((c : Thread nD τ), .reg barS)
abbrev sendCell (c p : Dev nD) : GSem nD τ sig := ((c : Thread nD τ), .dma (sendS p))
abbrev recvCell (c s : Dev nD) : GSem nD τ sig := ((c : Thread nD τ), .dma (recvS s))
abbrev copyCell (c : Dev nD) (i : Fin 4) : GSem nD τ sig := ((c : Thread nD τ), .dma (copyS i))

/-! ## The resource algebra -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Buffers and windows of buffers -/

abbrev xinM : Memref sig .tc .hbm S768x512 .f32 := Memref.whole main_arg0
abbrev youtM : Memref sig .tc .hbm S768x512 .f32 := Memref.whole main_v3
abbrev xM : Memref sig .tc .vmem S768x512 .f32 := Memref.whole cc0_scratch0
abbrev oM : Memref sig .tc .vmem S768x512 .f32 := Memref.whole cc0_scratch1
abbrev stM : Memref sig .tc .vmem S16x2x768 .f32 := Memref.whole cc0_scratch2
abbrev gM : Memref sig .tc .vmem S1x512 .f32 := Memref.whole cc0_stg0_0
abbrev bM : Memref sig .tc .vmem S1x512 .f32 := Memref.whole cc0_stg1_0

/-- The first and the last 384 rows of a block. -/
abbrev rowsA : Rect S768x512 := Rect.unit (s := S768x512) ![0, 0] S384x512.size inb_S768x512_S384x512_0_0
abbrev rowsB : Rect S768x512 := Rect.unit (s := S768x512) ![384, 0] S384x512.size inb_S768x512_S384x512_384_0

abbrev xinA : Memref sig .tc .hbm S384x512 .f32 := xinM.slice rowsA (fun _ => rfl)
abbrev xinB : Memref sig .tc .hbm S384x512 .f32 := xinM.slice rowsB (fun _ => rfl)
abbrev youtA : Memref sig .tc .hbm S384x512 .f32 := youtM.slice rowsA (fun _ => rfl)
abbrev youtB : Memref sig .tc .hbm S384x512 .f32 := youtM.slice rowsB (fun _ => rfl)
abbrev xA : Memref sig .tc .vmem S384x512 .f32 := xM.slice rowsA (fun _ => rfl)
abbrev xB : Memref sig .tc .vmem S384x512 .f32 := xM.slice rowsB (fun _ => rfl)
abbrev oA : Memref sig .tc .vmem S384x512 .f32 := oM.slice rowsA (fun _ => rfl)
abbrev oB : Memref sig .tc .vmem S384x512 .f32 := oM.slice rowsB (fun _ => rfl)

/-- Slot `s` of the statistics buffer. -/
abbrev slotM (s : Dev nD) : Memref sig .tc .vmem S2x768 .f32 :=
  (stM.slice (Rect.unit (s := S16x2x768) (k0_off7 s) S1x2x768.size (k0_off7_inb s)) (fun _ => rfl)).squeeze S2x768 squeezes_S1x2x768_S2x768

/-- A window of a buffer held at a share, with contents. -/
abbrev pts {sp : Space} {s : Shape} (M : Memref sig .tc sp s .f32) (c : Dev nD) (q : PosShare TreeShare)
    (f : Buf (Elt F) (M.view.loc (c : Thread nD τ))) : sProp 𝕄 :=
  M.view.loc (c : Thread nD τ) ↦[M.view.set]{q} f

/-- The amounts the transfers credit. -/
abbrev N : ℕ := (slotM 0).view.dmaCredit
abbrev Nx : ℕ := xA.view.dmaCredit
abbrev Ny : ℕ := youtA.view.dmaCredit
theorem N_pos : 0 < N := View.dmaCredit_pos _ (by decide)
theorem Nx_pos : 0 < Nx := View.dmaCredit_pos _ (by decide)
theorem Ny_pos : 0 < Ny := View.dmaCredit_pos _ (by decide)

/-! ## Contents -/

abbrev XBuf (F : FTy → Type) : Type := S768x512.Idx → Elt F .f32
abbrev GBuf (F : FTy → Type) : Type := S1x512.Idx → Elt F .f32
abbrev StBuf (F : FTy → Type) : Type := S16x2x768.Idx → Elt F .f32

/-- The row a block's element lies in, when it lies in the first, or in the last, 384 rows. -/
def loA (x : XBuf F) : Vec F S384x512 .f32 := xM.view.readAt (Elt F) rowsA.toLoadRect x
def loB (x : XBuf F) : Vec F S384x512 .f32 := xM.view.readAt (Elt F) rowsB.toLoadRect x

/-- Indices of a half block and of a row of statistics. -/
abbrev ixH (r : Fin 384) (l : Fin 512) : S384x512.Idx := fun | ⟨0, _⟩ => r | ⟨1, _⟩ => l
abbrev ixR (r : Fin 384) : S1x1x384.Idx := fun | ⟨0, _⟩ => (0 : Fin 1) | ⟨1, _⟩ => (0 : Fin 1) | ⟨2, _⟩ => r

theorem upper_lt (r : Fin 768) : r.val - 384 < 384 := by have := r.isLt; omega

/-- The statistics of all devices' blocks: the row sums and the row sums of squares. -/
def statsOf (X : Dev nD → XBuf F) : StBuf F := fun i =>
  if h : (i 2).val < 384 then
    (if (i 1).val = 0 then k0_pay1 (loA (X (i 0))) (ixR ⟨(i 2).val, h⟩) else k0_pay2 (loA (X (i 0))) (ixR ⟨(i 2).val, h⟩))
  else
    (if (i 1).val = 0 then k0_pay3 (loB (X (i 0))) (ixR ⟨(i 2).val - 384, upper_lt (i 2)⟩)
      else k0_pay4 (loB (X (i 0))) (ixR ⟨(i 2).val - 384, upper_lt (i 2)⟩))

/-- The block scaled by the weights. -/
def scaled (x : XBuf F) (g : GBuf F) : XBuf F := k0_pay6 g x

/-- The result block of one device, from its block, its weights and offsets and all devices' statistics. -/
def outOf (X : Dev nD → XBuf F) (x : XBuf F) (g b : GBuf F) : XBuf F := fun i =>
  if h : (i 0).val < 384 then
    k0_pay14 (k0_pay5 g) (k0_pay7 (statsOf X)) (k0_pay8 (statsOf X)) k0_pay9 b (loA (scaled x g)) (ixH ⟨(i 0).val, h⟩ (i 1))
  else
    k0_pay18 (k0_pay13 b) (k0_pay15 (k0_pay7 (statsOf X)) (k0_pay8 (statsOf X)) k0_pay9)
      (k0_pay16 (k0_pay7 (statsOf X)) (k0_pay8 (statsOf X)) k0_pay9 (loB (scaled x g))) (k0_pay17 (k0_pay5 g))
      (ixH ⟨(i 0).val - 384, upper_lt (i 0)⟩ (i 1))

/-! ## The schedule -/

variable (X Y : Dev nD → XBuf F)

/-- The share of its own slot a device lends to the copy it sends to `p`; what stays after all have been lent. -/
abbrev lent (p : Dev nD) : PosShare TreeShare := Transfers.shareTok fullShare 16 p
abbrev kept : PosShare TreeShare := Transfers.shareDrop fullShare 16

def barPay (c d : Dev nD) : sProp 𝕄 := iprop((∃ f, pts (slotM c) d fullShare f) ∗ reached ER (recvCell d c) 0)
def sendPay (c p : Dev nD) : sProp 𝕄 := pts (slotM c) c (lent p) (statsOf X)
def recvPay (c s : Dev nD) : sProp 𝕄 := pts (slotM s) c fullShare (statsOf X)
def copyPay (c : Dev nD) : Fin 4 → sProp 𝕄
  | 0 => iprop(pts xA c fullShare (X c) ∗ pts xinA c fullShare (X c))
  | 1 => iprop(pts xB c fullShare (X c) ∗ pts xinB c fullShare (X c))
  | 2 => iprop(pts youtA c fullShare (Y c) ∗ ∃ f, pts oA c fullShare f)
  | 3 => iprop(pts youtB c fullShare (Y c) ∗ ∃ f, pts oB c fullShare f)

def dutiesOf (c : Dev nD) : Role → Finset (Dev nD)
  | .bar => Finset.univ.erase c
  | .send p => if p = c then ∅ else {c}
  | .recv s => if s = c then ∅ else {s}
  | .copy _ => {c}
  | .other => ∅

def amountOf : Role → ℕ
  | .bar => 1
  | .send _ => N
  | .recv _ => N
  | .copy i => if i.val < 2 then Nx else Ny
  | .other => 1

def payOf (c d : Dev nD) : Role → sProp 𝕄
  | .bar => barPay c d
  | .send p => sendPay X c p
  | .recv s => recvPay X c s
  | .copy i => copyPay X Y c i
  | .other => iprop(emp)

def rd : Rounds.Schedule (GSem nD τ sig) (Dev nD) 𝕄 where
  duties g r := if r = 0 ∧ g.1.2 = .tc then dutiesOf g.1.1 (role g.2) else ∅
  unitless _ := False
  amount g _ _ := amountOf (role g.2)
  payload g _ d := payOf X Y g.1.1 d (role g.2)
  amount_pos g _ _ _ := by
    cases role g.2 with
    | bar => exact Nat.one_pos
    | send p => exact N_pos
    | recv p => exact N_pos
    | copy i => unfold amountOf; dsimp only; split
                · exact Nx_pos
                · exact Ny_pos
    | other => exact Nat.one_pos

instance rd_storable (g : GSem nD τ sig) (r : ℕ) (d : Dev nD) :
    BI.Storable (upEmb : UEmb _ 𝕄) ((rd (F := F) X Y).payload g r d) := by
  show BI.Storable upEmb (payOf X Y g.1.1 d (role g.2))
  generalize role g.2 = k
  cases k with
  | bar => unfold payOf barPay; infer_instance
  | send p => unfold payOf sendPay; infer_instance
  | recv p => unfold payOf recvPay; infer_instance
  | copy i => fin_cases i <;> (unfold payOf copyPay; infer_instance)
  | other => unfold payOf; infer_instance

section Tables
variable (c : Dev nD)

theorem duties_bar : (rd (F := F) X Y).duties (barCell c) 0 = Finset.univ.erase c := by
  dsimp only [rd]; rw [if_pos ⟨rfl, rfl⟩]; rfl
theorem duties_send {p : Dev nD} (h : p ≠ c) : (rd (F := F) X Y).duties (sendCell c p) 0 = {c} := by
  dsimp only [rd]
  rw [if_pos ⟨rfl, rfl⟩, role_send]; exact if_neg h
theorem duties_recv {s : Dev nD} (h : s ≠ c) : (rd (F := F) X Y).duties (recvCell c s) 0 = {s} := by
  dsimp only [rd]
  rw [if_pos ⟨rfl, rfl⟩, role_recv]; exact if_neg h
theorem duties_copy (i : Fin 4) : (rd (F := F) X Y).duties (copyCell c i) 0 = {c} := by
  dsimp only [rd]
  rw [if_pos ⟨rfl, rfl⟩, role_copy]; rfl
theorem duties_send_self (r : ℕ) : (rd (F := F) X Y).duties (sendCell c c) r = ∅ := by
  dsimp only [rd]
  rw [role_send]; split
  · exact if_pos rfl
  · rfl
theorem duties_recv_self (r : ℕ) : (rd (F := F) X Y).duties (recvCell c c) r = ∅ := by
  dsimp only [rd]
  rw [role_recv]; split
  · exact if_pos rfl
  · rfl
theorem duties_later (g : GSem nD τ sig) : ∀ r, 1 ≤ r → (rd (F := F) X Y).duties g r = ∅ :=
  fun r hr => if_neg fun h => by omega

theorem amount_bar (d : Dev nD) : (rd (F := F) X Y).amount (barCell c) 0 d = 1 := rfl
theorem amount_send (p d : Dev nD) : (rd (F := F) X Y).amount (sendCell c p) 0 d = N := by
  show amountOf (role _) = _; rw [role_send]; rfl
theorem amount_recv (p d : Dev nD) : (rd (F := F) X Y).amount (recvCell c p) 0 d = N := by
  show amountOf (role _) = _; rw [role_recv]; rfl
theorem amount_copy (i : Fin 4) (d : Dev nD) : (rd (F := F) X Y).amount (copyCell c i) 0 d = if i.val < 2 then Nx else Ny := by
  show amountOf (role _) = _; rw [role_copy]; rfl

theorem payload_bar (d : Dev nD) : (rd (F := F) X Y).payload (barCell c) 0 d = barPay c d := rfl
theorem payload_send (p d : Dev nD) : (rd (F := F) X Y).payload (sendCell c p) 0 d = sendPay X c p := by
  show payOf X Y c d (role _) = _; rw [role_send]; rfl
theorem payload_recv (p d : Dev nD) : (rd (F := F) X Y).payload (recvCell c p) 0 d = recvPay X c p := by
  show payOf X Y c d (role _) = _; rw [role_recv]; rfl
theorem payload_copy (i : Fin 4) (d : Dev nD) : (rd (F := F) X Y).payload (copyCell c i) 0 d = copyPay X Y c i := by
  show payOf X Y c d (role _) = _; rw [role_copy]; rfl

theorem expect_bar : (rd (F := F) X Y).expect (barCell c) 0 = 15 := by
  unfold Schedule.expect Schedule.amountOf
  rw [duties_bar, Finset.sum_congr rfl fun d _ => amount_bar X Y c d, Finset.sum_const, Finset.card_erase_of_mem (Finset.mem_univ c)]
  rfl
theorem expect_send {p : Dev nD} (h : p ≠ c) : (rd (F := F) X Y).expect (sendCell c p) 0 = N := by
  unfold Schedule.expect Schedule.amountOf; rw [duties_send X Y c h, Finset.sum_singleton, amount_send]
theorem expect_recv {p : Dev nD} (h : p ≠ c) : (rd (F := F) X Y).expect (recvCell c p) 0 = N := by
  unfold Schedule.expect Schedule.amountOf; rw [duties_recv X Y c h, Finset.sum_singleton, amount_recv]
theorem expect_copy (i : Fin 4) : (rd (F := F) X Y).expect (copyCell c i) 0 = if i.val < 2 then Nx else Ny := by
  unfold Schedule.expect Schedule.amountOf; rw [duties_copy, Finset.sum_singleton, amount_copy]

theorem rest_bar : bigSep ((rd (F := F) X Y).duties (barCell c) 0 \ ∅) (fun u => (rd (F := F) X Y).payload (barCell c) 0 u)
    = bigSep (Finset.univ.erase c) fun d => barPay c d := by
  rw [Finset.sdiff_empty, duties_bar]; rfl
theorem rest_send {p : Dev nD} (h : p ≠ c) : bigSep ((rd (F := F) X Y).duties (sendCell c p) 0 \ ∅) (fun u => (rd (F := F) X Y).payload (sendCell c p) 0 u)
    = sendPay X c p := by
  rw [Finset.sdiff_empty, duties_send X Y c h, bigSep_singleton, payload_send]
theorem rest_recv {p : Dev nD} (h : p ≠ c) : bigSep ((rd (F := F) X Y).duties (recvCell c p) 0 \ ∅) (fun u => (rd (F := F) X Y).payload (recvCell c p) 0 u)
    = recvPay X c p := by
  rw [Finset.sdiff_empty, duties_recv X Y c h, bigSep_singleton, payload_recv]
theorem rest_copy (i : Fin 4) : bigSep ((rd (F := F) X Y).duties (copyCell c i) 0 \ ∅) (fun u => (rd (F := F) X Y).payload (copyCell c i) 0 u)
    = copyPay X Y c i := by
  rw [Finset.sdiff_empty, duties_copy, bigSep_singleton, payload_copy]

end Tables

/-! ## What is owed at launch, and the levels -/

/-- One unit to the barrier cell of each of `S`. -/
def owedBar (S : Finset (Dev nD)) : CellTallies nD τ sig Unit := ∑ p ∈ S, tallyAt (barCell p) () 1
/-- One slot's credit to `c`'s receive cell on each of `S`. -/
def owedRecv (S : Finset (Dev nD)) (c : Dev nD) : CellTallies nD τ sig Unit := ∑ p ∈ S, tallyAt (recvCell p c) () N
def O₀ (c : Dev nD) : CellTallies nD τ sig Unit := owedBar (Finset.univ.erase c) + owedRecv (Finset.univ.erase c) c

def L (g : GSem nD τ sig) : Finset Unit := if g.1.2 = .tc then {()} else ∅
/-- Barrier cells at 1, receive cells at 2, the rest at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c s : Dev nD) : lv (recvCell c s) () = 2 := by unfold lv; rw [role_recv]
theorem lv_copy (c : Dev nD) (i : Fin 4) : lv (copyCell c i) () = 0 := by unfold lv; rw [role_copy]

theorem owedRecv_pos {S : Finset (Dev nD)} {c : Dev nD} {g : GSem nD τ sig} {u : Unit} (h : 0 < owedRecv S c g u) :
    ∃ p ∈ S, g = recvCell p c := by
  unfold owedRecv at h
  rw [Finset.sum_apply, Finsupp.finset_sum_apply] at h
  obtain ⟨p, hp, h⟩ := Finset.exists_ne_zero_of_sum_ne_zero (Nat.pos_iff_ne_zero.mp h)
  rw [tallyAt_apply] at h
  exact ⟨p, hp, by by_contra hg; exact h (if_neg fun hh => hg hh.1)⟩

theorem owedBar_pos {S : Finset (Dev nD)} {g : GSem nD τ sig} {u : Unit} (h : 0 < owedBar S g u) :
    ∃ p ∈ S, g = barCell p := by
  unfold owedBar at h
  rw [Finset.sum_apply, Finsupp.finset_sum_apply] at h
  obtain ⟨p, hp, h⟩ := Finset.exists_ne_zero_of_sum_ne_zero (Nat.pos_iff_ne_zero.mp h)
  rw [tallyAt_apply] at h
  exact ⟨p, hp, by by_contra hg; exact h (if_neg fun hh => hg hh.1)⟩

/-- A wait on a cell at level at most 1 may be made while only receive credits are owed. -/
theorem mayWait (c : Dev nD) (sm : SemLoc sig) (hsm : lv ((c : Thread nD τ), sm) () ≤ 1) (S : Finset (Dev nD)) (d : Dev nD) :
    (levAts L lv : sProp 𝕄) ⊢ MayWait (c : Thread nD τ) sm () (owedRecv S d) :=
  MayOwe.of_cut (L := L) (lev := lv) 1 (fun p hp => by rw [Finset.mem_singleton.mp hp, L_tc]; exact Finset.mem_singleton_self _)
    (fun g u hg => by obtain ⟨p, -, rfl⟩ := owedRecv_pos hg; rw [L_tc]; exact Finset.mem_singleton_self _)
    (fun p hp => by rw [Finset.mem_singleton.mp hp]; exact hsm)
    (fun g u hg => by obtain ⟨p, -, rfl⟩ := owedRecv_pos hg; rw [lv_recv]; decide)

abbrev 𝒱₀ : Variants := Variants.none

theorem all_elim {T : Type} [Fintype T] [DecidableEq T] (Φ : T → sProp 𝕄) (t : T) : (bigSep Finset.univ Φ : sProp 𝕄) ⊢ Φ t :=
  bigSep_elim (Finset.mem_univ t)

/-! ## What every device may consult -/

/-- All cells' invariants, at the names the launch gave them. -/
def invs (K : GSem nD τ sig → ℕ) : sProp 𝕄 :=
  iprop((bigSep Finset.univ fun c : Dev nD => cellInv ER (rd X Y) (K (barCell c)) (barCell c))
    ∗ (bigSep Finset.univ fun cp : Dev nD × Dev nD => cellInv ER (rd X Y) (K (sendCell cp.1 cp.2)) (sendCell cp.1 cp.2))
    ∗ (bigSep Finset.univ fun cp : Dev nD × Dev nD => cellInv ER (rd X Y) (K (recvCell cp.1 cp.2)) (recvCell cp.1 cp.2))
    ∗ (bigSep Finset.univ fun ci : Dev nD × Fin 4 => cellInv ER (rd X Y) (K (copyCell ci.1 ci.2)) (copyCell ci.1 ci.2))
    ∗ (bigSep Finset.univ fun c : Dev nD => reached ER (barCell c) 0))

instance invs_persistent (K : GSem nD τ sig → ℕ) : BI.Persistent (invs X Y K) := by unfold invs; infer_instance

/-- The same, and round 0 of the device's own cells. -/
def recs (K : GSem nD τ sig → ℕ) (c : Dev nD) : sProp 𝕄 :=
  iprop(invs X Y K ∗ (bigSep Finset.univ fun p : Dev nD => reached ER (sendCell c p) 0)
    ∗ (bigSep Finset.univ fun p : Dev nD => reached ER (recvCell c p) 0)
    ∗ (bigSep Finset.univ fun i : Fin 4 => reached ER (copyCell c i) 0) ∗ levAts L lv)

instance recs_persistent (K : GSem nD τ sig → ℕ) (c : Dev nD) : BI.Persistent (recs X Y K c) := by unfold recs; infer_instance

section Consult
variable (K : GSem nD τ sig → ℕ) (c : Dev nD)

theorem recs_bar (p : Dev nD) : recs X Y K c ⊢ cellInv ER (rd X Y) (K (barCell p)) (barCell p) := by
  unfold recs invs; iintro ⟨⟨#H, -⟩, -⟩
  iapply (all_elim (fun p : Dev nD => cellInv ER (rd X Y) (K (barCell p)) (barCell p)) p) $$ H
theorem recs_send (d p : Dev nD) : recs X Y K c ⊢ cellInv ER (rd X Y) (K (sendCell d p)) (sendCell d p) := by
  unfold recs invs; iintro ⟨⟨-, #H, -⟩, -⟩
  iapply (all_elim (fun cp : Dev nD × Dev nD => cellInv ER (rd X Y) (K (sendCell cp.1 cp.2)) (sendCell cp.1 cp.2)) (d, p)) $$ H
theorem recs_recv (d p : Dev nD) : recs X Y K c ⊢ cellInv ER (rd X Y) (K (recvCell d p)) (recvCell d p) := by
  unfold recs invs; iintro ⟨⟨-, -, #H, -⟩, -⟩
  iapply (all_elim (fun cp : Dev nD × Dev nD => cellInv ER (rd X Y) (K (recvCell cp.1 cp.2)) (recvCell cp.1 cp.2)) (d, p)) $$ H
theorem recs_copy (i : Fin 4) : recs X Y K c ⊢ cellInv ER (rd X Y) (K (copyCell c i)) (copyCell c i) := by
  unfold recs invs; iintro ⟨⟨-, -, -, #H, -⟩, -⟩
  iapply (all_elim (fun ci : Dev nD × Fin 4 => cellInv ER (rd X Y) (K (copyCell ci.1 ci.2)) (copyCell ci.1 ci.2)) (c, i)) $$ H
theorem recs_rbar (p : Dev nD) : recs X Y K c ⊢ (reached ER (barCell p) 0 : sProp 𝕄) := by
  unfold recs invs; iintro ⟨⟨-, -, -, -, #H⟩, -⟩
  iapply (all_elim (fun p : Dev nD => (reached ER (barCell p) 0 : sProp 𝕄)) p) $$ H
theorem recs_rsend (p : Dev nD) : recs X Y K c ⊢ (reached ER (sendCell c p) 0 : sProp 𝕄) := by
  unfold recs; iintro ⟨-, #H, -⟩
  iapply (all_elim (fun p : Dev nD => (reached ER (sendCell c p) 0 : sProp 𝕄)) p) $$ H
theorem recs_rrecv (p : Dev nD) : recs X Y K c ⊢ (reached ER (recvCell c p) 0 : sProp 𝕄) := by
  unfold recs; iintro ⟨-, -, #H, -⟩
  iapply (all_elim (fun p : Dev nD => (reached ER (recvCell c p) 0 : sProp 𝕄)) p) $$ H
theorem recs_rcopy (i : Fin 4) : recs X Y K c ⊢ (reached ER (copyCell c i) 0 : sProp 𝕄) := by
  unfold recs; iintro ⟨-, -, -, #H, -⟩
  iapply (all_elim (fun i : Fin 4 => (reached ER (copyCell c i) 0 : sProp 𝕄)) i) $$ H
theorem recs_lev : recs X Y K c ⊢ (levAts L lv : sProp 𝕄) := by
  unfold recs; iintro ⟨-, -, -, -, #H⟩; iexact H

end Consult

end Cert.KernelIdeal.Talk

end
-- ==== Proof.StepsIdeal.lean ====
/-
  One step at a time: what each signal, remote copy and wait of the exchange turns into what.

  The state of a phase keeps, for every peer not yet served, what serving it consumes, and for every peer served, what serving it
  left. Serving the peer `k + 1` places on moves that peer from the one family to the other.
-/
module

public import proofs.«01_k».proof.Proof.TalkIdeal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X Y : Dev nD → XBuf F) (K : GSem nD τ sig → ℕ) (c : Dev nD)

/-- A program of device `c` ends in `Q`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The semaphores the program names -/

theorem send_sem : ∀ (c : Dev nD) (r : Fin 15),
    ((cc0_scratch3.slice (Rect.unit (s := S16) (k0_off5 c (BitVec.ofNat 32 (1 + r.val))) S1.size (k0_off5_inb c r))).squeeze S_ squeezes_S1_S_).sem
      = sendS (peer c r) := by decide +kernel
theorem recv_sem : ∀ (c : Dev nD) (r : Fin 15),
    ((cc0_scratch4.slice (Rect.unit (s := S16) (k0_off5 c (BitVec.ofNat 32 (1 + r.val))) S1.size (k0_off5_inb c r))).squeeze S_ squeezes_S1_S_).sem
      = recvS (peer c r) := by decide +kernel
theorem own_sem : ∀ c : Dev nD,
    ((cc0_scratch4.slice (Rect.unit (s := S16) (k0_off6 c) S1.size (k0_off6_inb c))).squeeze S_ squeezes_S1_S_).sem = recvS c := by decide +kernel

/-! ## What is owed, peer by peer -/

theorem owedBar_step (k : Fin 15) : owedBar (rem c k.val) = owedBar (rem c (k.val + 1)) + tallyAt (barCell (peer c k)) () 1 := by
  unfold owedBar; rw [rem_step, Finset.sum_insert (rem_notMem c k), add_comm]
theorem owedRecv_step (k : Fin 15) :
    owedRecv (rem c k.val) c = owedRecv (rem c (k.val + 1)) c + tallyAt (recvCell (peer c k) c) () N := by
  unfold owedRecv; rw [rem_step, Finset.sum_insert (rem_notMem c k), add_comm]

theorem take_peer (Φ : Dev nD → sProp 𝕄) (k : Fin 15) :
    bigSep (rem c k.val) Φ = iprop(Φ (peer c k) ∗ bigSep (rem c (k.val + 1)) Φ) := by
  rw [rem_step, bigSep_insert (rem_notMem c k)]; rfl
theorem give_peer (Φ : Dev nD → sProp 𝕄) (k : Fin 15) :
    bigSep (don c (k.val + 1)) Φ = iprop(Φ (peer c k) ∗ bigSep (don c k.val) Φ) := by
  rw [don_step, bigSep_insert (don_notMem c k)]; rfl

/-! ## Signals -/

/-- What signalling `p` consumes: its token, and the slot `p` will write. -/
def SigPk (p : Dev nD) : sProp 𝕄 := iprop(dutyTok ER (barCell p) 0 c ∗ ∃ f, pts (slotM p) c fullShare f)

def SigSt (k : ℕ) : sProp 𝕄 :=
  iprop((∃ W, owes (c : Thread nD τ) (owedBar (rem c k) + owedRecv (Finset.univ.erase c) c) W) ∗ bigSep (rem c k) (SigPk (F := F) c))

theorem sig_step (k : Fin 15) {dst : Dev nD} (hd : dst = peer c k) (Q : PUnit → sProp 𝕄) :
    iprop(recs X Y K c ∗ SigSt c k.val ∗ (SigSt c (k.val + 1) -∗ Q ⟨⟩))
      ⊢ WP c (semSignalWord (dst : Dev nD) barS 1#32) Q := by
  subst hd
  unfold semSignalWord WP SigSt
  rw [take_peer c (SigPk (F := F) c) k, owedBar_step, show (1#32 : BitVec 32).toInt = ((1 : ℕ) : ℤ) from rfl]
  iintro ⟨#HR, ⟨⟨%W, HO⟩, HP, Hrest⟩, Hk⟩
  unfold SigPk
  icases HP with ⟨Ht, Hs⟩
  iapply (Rounds.wp_signal 𝒱₀ ER (rd X Y) (c : Thread nD τ) none (dst := (peer c k : Thread nD τ)) (sem := barS) (r := 0) (d := c)
      (κ := K (barCell (peer c k)))
      (by rw [duties_bar]; exact Finset.mem_erase.mpr ⟨(peer_ne c k).symm, Finset.mem_univ _⟩) (amount_bar X Y (peer c k) c) ()
      (owedBar (rem c (k.val + 1)) + owedRecv (Finset.univ.erase c) c) (by rw [add_right_comm])) $$ [HO Ht Hs]
  · isplitr; · iapply (recs_bar X Y K c (peer c k)); iexact HR
    isplitl [HO]; · iexact HO
    isplitl [Ht]; · iexact Ht
    isplitl [Hs]
    · rw [payload_bar]; unfold barPay
      isplitl [Hs]; · iexact Hs
      iapply (recs_rrecv X Y K c (peer c k)); iexact HR
    · iapply (recs_rbar X Y K c (peer c k)); iexact HR
  iintro HO
  rw [wp_ret]
  imodintro
  iapply Hk
  isplitl [HO]; · iexists W; iexact HO
  iexact Hrest

/-! ## Remote copies -/

/-- What sending to `p` consumes: two tokens, a share of the own slot, and that slot on `p`. -/
def SendPk (p : Dev nD) : sProp 𝕄 :=
  iprop(dutyTok ER (sendCell c p) 0 c ∗ dutyTok ER (recvCell p c) 0 c ∗ pts (slotM c) c (lent p) (statsOf X) ∗ barPay c p)

def SendSt (k : ℕ) : sProp 𝕄 :=
  iprop((∃ W, owes (c : Thread nD τ) (owedRecv (rem c k) c) W) ∗ bigSep (rem c k) (SendPk X c)
    ∗ bigSep (don c k) (fun p => cred (tallyAt (sendCell c p) () N)))

/-- What lands in a slot is what was sent. -/
theorem slot_landed (s p : Dev nD) (f : Buf (Elt F) ((slotM s).view.loc (p : Thread nD τ))) :
    pts (slotM s) p fullShare ((slotM s).view.write (Elt F) f ((slotM s).view.read (Elt F) (statsOf X)) Finset.univ)
      ⊢ (recvPay X p s : sProp 𝕄) := by
  unfold recvPay
  refine Entails.of_eq (pointsTo_congr fun i hi => ?_)
  obtain ⟨j, -, rfl⟩ := Finset.mem_map.mp hi
  rw [View.write_emb_of_mem _ _ (Finset.mem_univ _), View.read_apply, cast_cast, cast_eq]

theorem send_step (k : Fin 15) {dst : Dev nD} (hd : dst = peer c k) {sS sR : DmaSem sig} (hS : sS = sendS (peer c k)) (hR : sR = recvS c)
    (h₁ : (slotM c).view.WordExact) (h₂ : (slotM c).view.WordExact) (h₃ : DmaTarget.Typed .vmem (.dma sR) (.remote (Dev.tc dst) (slotM c) (.dma sS)))
    (Q : PUnit → sProp 𝕄) :
    iprop(recs X Y K c ∗ SendSt X c k.val ∗ (SendSt X c (k.val + 1) -∗ Q ⟨⟩))
      ⊢ WP c (Prog.lift (.enqueueDma (slotM c) (.remote (Dev.tc dst) (slotM c) (.dma sS)) (.dma sR) h₁ h₂ h₃)) Q := by
  subst hd hS hR
  unfold Prog.lift WP SendSt
  rw [take_peer c (SendPk X c) k, give_peer c _ k, owedRecv_step]
  iintro ⟨#HR, ⟨⟨%W, HO⟩, ⟨HP, Hrest⟩, Hdone⟩, Hk⟩
  unfold SendPk barPay
  icases HP with ⟨Ht₁, Ht₂, Hs, ⟨%f, Hd⟩, #Hr₂⟩
  iapply (Rounds.wp_send_pointsTo 𝒱₀ ER (rd X Y) (c : Thread nD τ) none (c' := (peer c k : Thread nD τ)) (src := slotM c) (dst := slotM c)
      (sS := .dma (sendS (peer c k))) (sem := .dma (recvS c)) (q := lent (peer c k)) (fs := statsOf X) (κ₁ := K (sendCell c (peer c k)))
      (κ₂ := K (recvCell (peer c k) c)) (r₁ := 0) (r₂ := 0) (d₁ := c) (d₂ := c) (fd := f)
      (by rw [duties_send X Y c (peer_ne c k)]; exact Finset.mem_singleton_self _)
      (by rw [duties_recv X Y (peer c k) (peer_ne c k).symm]; exact Finset.mem_singleton_self _)
      () () N rfl (amount_send X Y c (peer c k) c) (amount_recv X Y (peer c k) c c) (owedRecv (rem c (k.val + 1)) c) rfl
      (by rw [payload_send]; exact BI.Entails.refl _)
      (by rw [payload_recv]; exact slot_landed X c (peer c k) f)) $$ [Hs Hd HO Ht₁ Ht₂]
  · isplitr; · iapply (recs_send X Y K c c (peer c k)); iexact HR
    isplitr; · iapply (recs_recv X Y K c (peer c k) c); iexact HR
    isplitl [Hs]; · iexact Hs
    isplitl [Hd]; · iexact Hd
    isplitl [HO]; · iexact HO
    isplitl [Ht₁]; · iexact Ht₁
    isplitr; · iapply (recs_rsend X Y K c (peer c k)); iexact HR
    isplitl [Ht₂]; · iexact Ht₂
    iexact Hr₂
  iintro ⟨Hc, HO⟩
  rw [wp_ret]
  imodintro
  iapply Hk
  isplitl [HO]; · iexists W; iexact HO
  isplitl [Hrest]; · iexact Hrest
  isplitl [Hc]; · iexact Hc
  iexact Hdone

/-! ## Waits for the peers' slots -/

/-- A slot of the statistics buffer at any offset. -/
abbrev anySlot (off : Fin 3 → ℕ) (ho : ∀ a, off a + S1x2x768.size a ≤ S16x2x768.size a) : Memref sig .tc .vmem S2x768 .f32 :=
  (stM.slice (Rect.unit (s := S16x2x768) off S1x2x768.size ho) (fun _ => rfl)).squeeze S2x768 squeezes_S1x2x768_S2x768

def RecvPk (p : Dev nD) : sProp 𝕄 := iprop(cred (tallyAt (recvCell c p) () N) ∗ atPos ER (recvCell c p) 0 ∅ 0)
def RecvDn (p : Dev nD) : sProp 𝕄 := iprop(recvPay X c p ∗ atPos ER (recvCell c p) 1 ∅ 0)
def RecvSt (k : ℕ) : sProp 𝕄 :=
  iprop((∃ W, owes (c : Thread nD τ) (0 : CellTallies nD τ sig Unit) W) ∗ bigSep (rem c k) (RecvPk (F := F) c) ∗ bigSep (don c k) (RecvDn X c))

theorem recv_step (k : Fin 15) {sm : DmaSem sig} (hs : sm = recvS (peer c k)) {off off' : Fin 3 → ℕ} {ho : ∀ a, off a + S1x2x768.size a ≤ S16x2x768.size a}
    {ho' : ∀ a, off' a + S1x2x768.size a ≤ S16x2x768.size a} (h₁ : (anySlot off ho).view.WordExact) (h₂ : (anySlot off' ho').view.WordExact) (Q : PUnit → sProp 𝕄) :
    iprop(recs X Y K c ∗ RecvSt X c k.val ∗ (RecvSt X c (k.val + 1) -∗ Q ⟨⟩))
      ⊢ WP c (Prog.lift (.waitDma2 sm (anySlot off ho) (anySlot off' ho') h₁ h₂)) Q := by
  subst hs
  have hN : (anySlot off' ho').view.dmaCredit = N := rfl
  unfold Prog.lift WP RecvSt
  rw [take_peer c (RecvPk (F := F) c) k, give_peer c _ k]
  iintro ⟨#HR, ⟨⟨%W, HO⟩, ⟨HP, Hrest⟩, Hdone⟩, Hk⟩
  unfold RecvPk
  icases HP with ⟨Hc, Hat⟩
  iapply (Rounds.wp_wait_rest_token 𝒱₀ ER (rd X Y) (c : Thread nD τ) none (κ := K (recvCell c (peer c k)))
      (wpE_waitDma2_eq (src := anySlot off ho) (dst := anySlot off' ho') 𝒱₀ (c : Thread nD τ) none Set.univ) (Set.mem_univ _) () (O := 0) (W := W) (R := 0) (m := 0) (T := ∅)
      ((Nat.zero_add _).trans (hN.trans (expect_recv X Y c (peer_ne c k)).symm))) $$ [Hc HO Hat]
  · isplitr; · iapply (recs_recv X Y K c c (peer c k)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv X Y c (peer_ne c k))) $$ Hpay
  rw [wp_ret]
  imodintro
  iapply Hk
  isplitl [HO]; · iexists _; iexact HO
  isplitl [Hrest]; · iexact Hrest
  isplitl [Hp Hat]
  · unfold RecvDn
    isplitl [Hp]; · iexact Hp
    iexact Hat
  iexact Hdone

/-! ## Waits for the own copies to have been sent -/

def SentPk (p : Dev nD) : sProp 𝕄 := iprop(cred (tallyAt (sendCell c p) () N) ∗ atPos ER (sendCell c p) 0 ∅ 0)
def SentDn (p : Dev nD) : sProp 𝕄 := iprop(sendPay X c p ∗ atPos ER (sendCell c p) 1 ∅ 0)
def SentSt (k : ℕ) : sProp 𝕄 :=
  iprop((∃ W, owes (c : Thread nD τ) (0 : CellTallies nD τ sig Unit) W) ∗ bigSep (rem c k) (SentPk (F := F) c) ∗ bigSep (don c k) (SentDn X c))

theorem sent_step (k : Fin 15) {sm : DmaSem sig} (hs : sm = sendS (peer c k)) {off off' : Fin 3 → ℕ} {ho : ∀ a, off a + S1x2x768.size a ≤ S16x2x768.size a}
    {ho' : ∀ a, off' a + S1x2x768.size a ≤ S16x2x768.size a} (h₁ : (anySlot off ho).view.WordExact) (h₂ : (anySlot off' ho').view.WordExact) (Q : PUnit → sProp 𝕄) :
    iprop(recs X Y K c ∗ SentSt X c k.val ∗ (SentSt X c (k.val + 1) -∗ Q ⟨⟩))
      ⊢ WP c (Prog.lift (.waitDma2 sm (anySlot off ho) (anySlot off' ho') h₁ h₂)) Q := by
  subst hs
  have hN : (anySlot off' ho').view.dmaCredit = N := rfl
  unfold Prog.lift WP SentSt
  rw [take_peer c (SentPk (F := F) c) k, give_peer c _ k]
  iintro ⟨#HR, ⟨⟨%W, HO⟩, ⟨HP, Hrest⟩, Hdone⟩, Hk⟩
  unfold SentPk
  icases HP with ⟨Hc, Hat⟩
  iapply (Rounds.wp_wait_rest_token 𝒱₀ ER (rd X Y) (c : Thread nD τ) none (κ := K (sendCell c (peer c k)))
      (wpE_waitDma2_eq (src := anySlot off ho) (dst := anySlot off' ho') 𝒱₀ (c : Thread nD τ) none Set.univ) (Set.mem_univ _) () (O := 0) (W := W) (R := 0) (m := 0) (T := ∅)
      ((Nat.zero_add _).trans (hN.trans (expect_send X Y c (peer_ne c k)).symm))) $$ [Hc HO Hat]
  · isplitr; · iapply (recs_send X Y K c c (peer c k)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send X Y c (peer_ne c k))) $$ Hpay
  rw [wp_ret]
  imodintro
  iapply Hk
  isplitl [HO]; · iexists _; iexact HO
  isplitl [Hrest]; · iexact Hrest
  isplitl [Hp Hat]
  · unfold SentDn
    isplitl [Hp]; · iexact Hp
    iexact Hat
  iexact Hdone

/-! ## The wait for all peers -/

set_option maxRecDepth 20000 in
theorem recs_may (sm : SemLoc sig) (hsm : lv ((c : Thread nD τ), sm) () ≤ 1) (S : Finset (Dev nD)) :
    recs X Y K c ⊢ (MayWait (c : Thread nD τ) sm () (owedRecv S c) : sProp 𝕄) :=
  BIBase.Entails.trans (recs_lev X Y K c) (mayWait c sm hsm S c)

theorem bar_step (Q : PUnit → sProp 𝕄) :
    iprop(recs X Y K c ∗ (∃ W, owes (c : Thread nD τ) (owedRecv (Finset.univ.erase c) c) W) ∗ cred (tallyAt (barCell c) () 15)
        ∗ atPos ER (barCell c) 0 ∅ 0
        ∗ (((∃ W, owes (c : Thread nD τ) (owedRecv (Finset.univ.erase c) c) W) ∗ atPos ER (barCell c) 1 ∅ 0
            ∗ bigSep (Finset.univ.erase c) fun d => barPay c d) -∗ Q ⟨⟩))
      ⊢ WP c (semWaitWord barS 15#32) Q := by
  unfold semWaitWord WP
  rw [show (15#32 : BitVec 32).toInt = ((15 : ℕ) : ℤ) from rfl]
  iintro ⟨#HR, ⟨%W, HO⟩, Hc, Hat, Hk⟩
  iapply (Rounds.wp_wait_rest_token 𝒱₀ ER (rd X Y) (c : Thread nD τ) none (κ := K (barCell c))
      (wpE_semWait_eq 𝒱₀ (c : Thread nD τ) none Set.univ) (Set.mem_univ _) () (O := owedRecv (Finset.univ.erase c) c) (W := W) (R := 0) (m := 0)
      (T := ∅) ((Nat.zero_add _).trans (expect_bar X Y c).symm)) $$ [Hc HO Hat]
  · isplitr; · iapply (recs_bar X Y K c c); iexact HR
    isplitl [Hc]; · iexact Hc
    isplitl [HO]; · iexact HO
    isplitr; · iapply (recs_may X Y K c (.reg barS) (le_of_eq (lv_bar c)) (Finset.univ.erase c)); iexact HR
    iexact Hat
  iintro ⟨HO, Hat, -, Hpay⟩
  ihave Hp := (Entails.of_eq (rest_bar X Y c)) $$ Hpay
  rw [wp_ret]
  imodintro
  iapply Hk
  isplitl [HO]; · iexists _; iexact HO
  isplitl [Hat]; · iexact Hat
  iexact Hp

/-! ## Local copies -/

/-- What one copy credits its cell. -/
abbrev Nc (i : Fin 4) : ℕ := if i.val < 2 then Nx else Ny

theorem copy_step (i : Fin 4) {sm : DmaSem sig} (hs : sm = copyS i) {sp sp' : Space} (src : Memref sig .tc sp S384x512 .f32)
    (dst : Memref sig .tc sp' S384x512 .f32) (fs : Buf (Elt F) (src.view.loc (c : Thread nD τ)))
    (hN : dst.view.amount (.dma (copyS i) : SemLoc sig) = Nc i) (h₁ : src.view.WordExact) (h₂ : dst.view.WordExact)
    (h₃ : DmaTarget.Typed sp (.dma sm) (DmaTarget.here (nD := nD) (τ := τ) (p := .tc) dst))
    (hpay : ∀ fd : Buf (Elt F) (dst.view.loc (c : Thread nD τ)),
      iprop(pts dst c fullShare (dst.view.write (Elt F) fd (src.view.read (Elt F) fs) Finset.univ) ∗ pts src c fullShare fs) ⊢ copyPay X Y c i)
    (Q : PUnit → sProp 𝕄) :
    iprop(recs X Y K c ∗ pts src c fullShare fs ∗ (∃ fd, pts dst c fullShare fd) ∗ dutyTok ER (copyCell c i) 0 c
        ∗ (cred (tallyAt (copyCell c i) () (Nc i)) -∗ Q ⟨⟩))
      ⊢ WP c (Prog.lift (.enqueueDma src (.here dst) (.dma sm) h₁ h₂ h₃)) Q := by
  subst hs
  unfold Prog.lift WP
  iintro ⟨#HR, Hs, ⟨%fd, Hd⟩, Ht, Hk⟩
  iapply (Rounds.wp_copy_pointsTo 𝒱₀ ER (rd X Y) (c : Thread nD τ) none (src := src) (dst := dst) (sem := .dma (copyS i)) (q := fullShare)
      (fs := fs) (fd := fd) (r := 0) (d := c) (κ := K (copyCell c i))
      (by rw [duties_copy]; exact Finset.mem_singleton_self _) () (Nc i) hN (amount_copy X Y c i c)
      (by rw [payload_copy]; exact hpay fd)) $$ [Hs Hd Ht]
  · isplitr; · iapply (recs_copy X Y K c i); iexact HR
    isplitl [Hs]; · iexact Hs
    isplitl [Hd]; · iexact Hd
    isplitl [Ht]; · iexact Ht
    iapply (recs_rcopy X Y K c i); iexact HR
  iintro Hc
  rw [wp_ret]
  imodintro
  iapply Hk
  iexact Hc

theorem copied_step (i : Fin 4) (S : Finset (Dev nD)) {sm : DmaSem sig} (hs : sm = copyS i) {sp sp' : Space}
    (src : Memref sig .tc sp S384x512 .f32) (dst : Memref sig .tc sp' S384x512 .f32)
    (hN : dst.view.dmaCredit = Nc i) (h₁ : src.view.WordExact) (h₂ : dst.view.WordExact) (Q : PUnit → sProp 𝕄) :
    iprop(recs X Y K c ∗ (∃ W, owes (c : Thread nD τ) (owedRecv S c) W) ∗ cred (tallyAt (copyCell c i) () (Nc i))
        ∗ atPos ER (copyCell c i) 0 ∅ 0
        ∗ (((∃ W, owes (c : Thread nD τ) (owedRecv S c) W) ∗ atPos ER (copyCell c i) 1 ∅ 0 ∗ copyPay X Y c i) -∗ Q ⟨⟩))
      ⊢ WP c (Prog.lift (.waitDma2 sm src dst h₁ h₂)) Q := by
  subst hs
  unfold Prog.lift WP
  iintro ⟨#HR, ⟨%W, HO⟩, Hc, Hat, Hk⟩
  iapply (Rounds.wp_wait_rest_token 𝒱₀ ER (rd X Y) (c : Thread nD τ) none (κ := K (copyCell c i))
      (wpE_waitDma2_eq (src := src) (dst := dst) 𝒱₀ (c : Thread nD τ) none Set.univ) (Set.mem_univ _) () (O := owedRecv S c) (W := W) (R := 0)
      (m := 0) (T := ∅) ((Nat.zero_add _).trans (hN.trans (expect_copy X Y c i).symm))) $$ [Hc HO Hat]
  · isplitr; · iapply (recs_copy X Y K c i); iexact HR
    isplitl [Hc]; · rw [hN]; iexact Hc
    isplitl [HO]; · iexact HO
    isplitr
    · iapply (recs_may X Y K c (.dma (copyS i)) (by rw [lv_copy]; exact Nat.zero_le 1) S); iexact HR
    iexact Hat
  iintro ⟨HO, Hat, -, Hpay⟩
  ihave Hp := (Entails.of_eq (rest_copy X Y c i)) $$ Hpay
  rw [wp_ret]
  imodintro
  iapply Hk
  isplitl [HO]; · iexists _; iexact HO
  isplitl [Hat]; · iexact Hat
  iexact Hp

/-! ## Loads and stores -/

theorem load_step {sp : CoreSpace} {s : Shape} (m : Memref sig .tc sp s .f32) (r : LoadRect s) (hl : m.view.LoadsAt r)
    {S : Finset (Idx (m.view.loc (c : Thread nD τ)))} (q : PosShare TreeShare) (f : Buf (Elt F) (m.view.loc (c : Thread nD τ)))
    (hS : m.view.setOn r.set ⊆ S) (Q : (r.shape.Idx → Elt F .f32) → sProp 𝕄) :
    iprop((m.view.loc (c : Thread nD τ) ↦[S]{q} f) ∗ ((m.view.loc (c : Thread nD τ) ↦[S]{q} f) -∗ Q (m.view.readAt (Elt F) r f)))
      ⊢ WP c (Prog.lift (.load m r hl)) Q := by
  unfold Prog.lift WP
  iintro ⟨Hs, Hk⟩
  iapply (wp_load 𝒱₀ (c : Thread nD τ) none Set.univ (m := m) (r := r) (S := S) (q := q) (f := f) hS) $$ Hs
  iintro Hs
  rw [wp_ret]
  imodintro
  iapply Hk
  iexact Hs

theorem store_step {sp : CoreSpace} {s : Shape} (m : Memref sig .tc sp s .f32) (r : Rect s) (w : r.shape.Idx → Elt F .f32)
    (hx : (m.access r).Stores Finset.univ) (hm : (Finset.univ : Finset r.shape.Idx) = Finset.univ ∨ ∀ a, r.stride a = 1)
    {S : Finset (Idx ((m.access r).loc (c : Thread nD τ)))} (f : Buf (Elt F) ((m.access r).loc (c : Thread nD τ)))
    (hS : (m.access r).setOn Finset.univ ⊆ S) (Q : PUnit → sProp 𝕄) :
    iprop(((m.access r).loc (c : Thread nD τ) ↦[S]{fullShare} f)
        ∗ (((m.access r).loc (c : Thread nD τ) ↦[S]{fullShare} ((m.access r).write (Elt F) f w Finset.univ)) -∗ Q ⟨⟩))
      ⊢ WP c (Prog.lift (.store m r w Finset.univ hx hm)) Q := by
  unfold Prog.lift WP
  iintro ⟨Hs, Hk⟩
  iapply (wp_store 𝒱₀ (c : Thread nD τ) none Set.univ (m := m) (r := r) (w := w) (S := S) (f := f) hS) $$ Hs
  iintro Hs
  rw [wp_ret]
  imodintro
  iapply Hk
  iexact Hs

end Cert.KernelIdeal.Talk

end
-- ==== Proof.PiecesIdeal.lean ====
/-
  The buffers by pieces: blocks by halves, the statistics buffer by slots; what the copies and the stores leave in them.
-/
module

public import proofs.«01_k».proof.Proof.StepsIdeal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X Y : Dev nD → XBuf F) (c : Dev nD)

/-! ## Halves of a block -/

theorem mem_rowsA (i : S768x512.Idx) : i ∈ rowsA.set ↔ (i 0).val < 384 := by
  rw [Rect.mem_set_unit, Fin.forall_fin_two]
  have h0 : (i 0).val < 768 := (i 0).isLt
  have h1 : (i 1).val < 512 := (i 1).isLt
  show (0 ≤ (i 0).val ∧ (i 0).val < 0 + 384) ∧ (0 ≤ (i 1).val ∧ (i 1).val < 0 + 512) ↔ _
  omega
theorem mem_rowsB (i : S768x512.Idx) : i ∈ rowsB.set ↔ 384 ≤ (i 0).val := by
  rw [Rect.mem_set_unit, Fin.forall_fin_two]
  have h0 : (i 0).val < 768 := (i 0).isLt
  have h1 : (i 1).val < 512 := (i 1).isLt
  show (384 ≤ (i 0).val ∧ (i 0).val < 384 + 384) ∧ (0 ≤ (i 1).val ∧ (i 1).val < 0 + 512) ↔ _
  omega
theorem rows_union : rowsA.set ∪ rowsB.set = (Finset.univ : Finset S768x512.Idx) := by
  ext i; rw [Finset.mem_union, mem_rowsA, mem_rowsB]; simp only [Finset.mem_univ, iff_true]; omega
theorem rows_disjoint : Disjoint rowsA.set rowsB.set :=
  Finset.disjoint_left.mpr fun i hA hB => by rw [mem_rowsA] at hA; rw [mem_rowsB] at hB; omega

theorem xA_set : xA.view.set = rowsA.set := View.set_slice_whole _ _
theorem xB_set : xB.view.set = rowsB.set := View.set_slice_whole _ _
theorem oA_set : oA.view.set = rowsA.set := View.set_slice_whole _ _
theorem oB_set : oB.view.set = rowsB.set := View.set_slice_whole _ _
theorem xinA_set : xinA.view.set = rowsA.set := View.set_slice_whole _ _
theorem xinB_set : xinB.view.set = rowsB.set := View.set_slice_whole _ _
theorem youtA_set : youtA.view.set = rowsA.set := View.set_slice_whole _ _
theorem youtB_set : youtB.view.set = rowsB.set := View.set_slice_whole _ _

theorem x_halves (q : PosShare TreeShare) (f : XBuf F) : (pts xM c q f : sProp 𝕄) ⊣⊢ iprop(pts xA c q f ∗ pts xB c q f) := by
  unfold pts
  rw [show xM.view.set = rowsA.set ∪ rowsB.set from (View.set_whole _).trans rows_union.symm, xA_set, xB_set]
  exact pointsTo_union rows_disjoint
theorem o_halves (q : PosShare TreeShare) (f : XBuf F) : (pts oM c q f : sProp 𝕄) ⊣⊢ iprop(pts oA c q f ∗ pts oB c q f) := by
  unfold pts
  rw [show oM.view.set = rowsA.set ∪ rowsB.set from (View.set_whole _).trans rows_union.symm, oA_set, oB_set]
  exact pointsTo_union rows_disjoint
theorem xin_halves (q : PosShare TreeShare) (f : XBuf F) : (pts xinM c q f : sProp 𝕄) ⊣⊢ iprop(pts xinA c q f ∗ pts xinB c q f) := by
  unfold pts
  rw [show xinM.view.set = rowsA.set ∪ rowsB.set from (View.set_whole _).trans rows_union.symm, xinA_set, xinB_set]
  exact pointsTo_union rows_disjoint
theorem yout_halves (q : PosShare TreeShare) (f : XBuf F) : (pts youtM c q f : sProp 𝕄) ⊣⊢ iprop(pts youtA c q f ∗ pts youtB c q f) := by
  unfold pts
  rw [show youtM.view.set = rowsA.set ∪ rowsB.set from (View.set_whole _).trans rows_union.symm, youtA_set, youtB_set]
  exact pointsTo_union rows_disjoint

/-- The two halves at unrelated contents make the whole at some contents. -/
theorem o_join (f g : XBuf F) : (iprop(pts oA c fullShare f ∗ pts oB c fullShare g) : sProp 𝕄) ⊢ iprop(∃ h, pts oM c fullShare h) := by
  unfold pts
  rw [show oM.view.set = rowsA.set ∪ rowsB.set from (View.set_whole _).trans rows_union.symm, oA_set, oB_set]
  iintro H
  iexists _
  iapply (pointsTo_join rows_disjoint) $$ H

/-- What lands in the first, and in the last, half of the local block is that half of the input. -/
theorem xA_landed (f fd : XBuf F) :
    (pts xA c fullShare (xA.view.write (Elt F) fd (xinA.view.read (Elt F) f) Finset.univ) : sProp 𝕄) = pts xA c fullShare f :=
  pointsTo_congr fun i hi => by
    obtain ⟨j, -, rfl⟩ := Finset.mem_map.mp hi
    rw [View.write_emb_of_mem _ _ (Finset.mem_univ _), View.read_apply, cast_cast, cast_eq]; rfl
theorem xB_landed (f fd : XBuf F) :
    (pts xB c fullShare (xB.view.write (Elt F) fd (xinB.view.read (Elt F) f) Finset.univ) : sProp 𝕄) = pts xB c fullShare f :=
  pointsTo_congr fun i hi => by
    obtain ⟨j, -, rfl⟩ := Finset.mem_map.mp hi
    rw [View.write_emb_of_mem _ _ (Finset.mem_univ _), View.read_apply, cast_cast, cast_eq]; rfl

/-- What lands in a half of the result is what was stored in that half of the local result. -/
theorem youtA_landed (y : XBuf F) (h fd : XBuf F) (w : Vec F S384x512 .f32) (hw : ∀ j, y (rowsA.emb j) = w j) :
    (pts youtA c fullShare (youtA.view.write (Elt F) fd (oA.view.read (Elt F) ((oM.access rowsA).write (Elt F) h w Finset.univ)) Finset.univ) : sProp 𝕄)
      = pts youtA c fullShare y :=
  pointsTo_congr fun i hi => by
    obtain ⟨j, -, rfl⟩ := Finset.mem_map.mp hi
    rw [View.write_emb_of_mem _ _ (Finset.mem_univ _)]
    exact ((cast_eq _ _).trans (congrFun (View.read_write_univ (v := oM.access rowsA) h w) j)).trans (hw j).symm
theorem youtB_landed (y : XBuf F) (h fd : XBuf F) (w : Vec F S384x512 .f32) (hw : ∀ j, y (rowsB.emb j) = w j) :
    (pts youtB c fullShare (youtB.view.write (Elt F) fd (oB.view.read (Elt F) ((oM.access rowsB).write (Elt F) h w Finset.univ)) Finset.univ) : sProp 𝕄)
      = pts youtB c fullShare y :=
  pointsTo_congr fun i hi => by
    obtain ⟨j, -, rfl⟩ := Finset.mem_map.mp hi
    rw [View.write_emb_of_mem _ _ (Finset.mem_univ _)]
    exact ((cast_eq _ _).trans (congrFun (View.read_write_univ (v := oM.access rowsB) h w) j)).trans (hw j).symm

theorem ixH_eta (j : S384x512.Idx) (h : (rowsA.emb j 0).val < 384) : ixH ⟨(rowsA.emb j 0).val, h⟩ (rowsA.emb j 1) = j := by
  funext a
  match a with
  | ⟨0, _⟩ => exact Fin.ext (by show 0 + 1 * (j 0).val = (j 0).val; omega)
  | ⟨1, _⟩ => exact Fin.ext (by show 0 + 1 * (j 1).val = (j 1).val; omega)
theorem ixH_etaB (j : S384x512.Idx) (h : (rowsB.emb j 0).val - 384 < 384) : ixH ⟨(rowsB.emb j 0).val - 384, h⟩ (rowsB.emb j 1) = j := by
  funext a
  match a with
  | ⟨0, _⟩ => exact Fin.ext (by show 384 + 1 * (j 0).val - 384 = (j 0).val; omega)
  | ⟨1, _⟩ => exact Fin.ext (by show 0 + 1 * (j 1).val = (j 1).val; omega)

theorem outOf_A (x : XBuf F) (g b : GBuf F) (j : S384x512.Idx) :
    outOf X x g b (rowsA.emb j)
      = k0_pay14 (k0_pay5 g) (k0_pay7 (statsOf X)) (k0_pay8 (statsOf X)) k0_pay9 b (loA (scaled x g)) j := by
  have h : (rowsA.emb j 0).val < 384 := by
    have := (j 0).isLt
    show 0 + 1 * (j 0).val < 384
    have h2 : (j 0).val < 384 := (j 0).isLt
    omega
  unfold outOf
  rw [dif_pos h, ixH_eta]
theorem outOf_B (x : XBuf F) (g b : GBuf F) (j : S384x512.Idx) :
    outOf X x g b (rowsB.emb j)
      = k0_pay18 (k0_pay13 b) (k0_pay15 (k0_pay7 (statsOf X)) (k0_pay8 (statsOf X)) k0_pay9)
        (k0_pay16 (k0_pay7 (statsOf X)) (k0_pay8 (statsOf X)) k0_pay9 (loB (scaled x g))) (k0_pay17 (k0_pay5 g)) j := by
  have h : ¬ (rowsB.emb j 0).val < 384 := by
    show ¬ 384 + 1 * (j 0).val < 384
    omega
  unfold outOf
  rw [dif_neg h, ixH_etaB]

/-! ## Slots of the statistics buffer -/

theorem off7_eq : ∀ s : Dev nD, k0_off7 s = ![s.val, 0, 0] := by decide +kernel
theorem off1_eq : ∀ s : Dev nD, k0_off1 s = ![s.val, 0, 0] := by decide +kernel
theorem off2_eq : ∀ s : Dev nD, k0_off2 s = ![s.val, 1, 0] := by decide +kernel
theorem off3_eq : ∀ s : Dev nD, k0_off3 s = ![s.val, 0, 384] := by decide +kernel
theorem off4_eq : ∀ s : Dev nD, k0_off4 s = ![s.val, 1, 384] := by decide +kernel

/-- The elements of slot `s`. -/
abbrev slotSet (s : Dev nD) : Finset S16x2x768.Idx := (slotM s).view.set

theorem slot_set (s : Dev nD) :
    (slotM s).view.set = (Rect.unit (s := S16x2x768) (k0_off7 s) S1x2x768.size (k0_off7_inb s)).set :=
  (View.set_reshape _ _).trans (View.set_slice_whole _ _)

theorem mem_slot (s : Dev nD) (i : S16x2x768.Idx) : i ∈ (slotM s).view.set ↔ (i 0).val = s.val := by
  rw [slot_set, Rect.mem_set_unit, Fin.forall_fin_succ, Fin.forall_fin_two, off7_eq]
  have h1 : (i 1).val < 2 := (i 1).isLt
  have h2 : (i 2).val < 768 := (i 2).isLt
  show (s.val ≤ (i 0).val ∧ (i 0).val < s.val + 1) ∧ (0 ≤ (i 1).val ∧ (i 1).val < 0 + 2) ∧ (0 ≤ (i 2).val ∧ (i 2).val < 0 + 768) ↔ _
  omega

theorem slots_disjoint : ∀ t ∈ (Finset.univ : Finset (Dev nD)), ∀ t' ∈ (Finset.univ : Finset (Dev nD)), t ≠ t' →
    Disjoint (slotSet t) (slotSet t') :=
  fun t _ t' _ h => Finset.disjoint_left.mpr fun i h1 h2 => h (Fin.ext (((mem_slot t i).mp h1).symm.trans ((mem_slot t' i).mp h2)))

theorem slots_cover : (Finset.univ : Finset (Dev nD)).biUnion slotSet = Finset.univ := by
  ext i
  simp only [Finset.mem_biUnion, Finset.mem_univ, true_and, iff_true]
  exact ⟨⟨(i 0).val, (i 0).isLt⟩, (mem_slot _ i).mpr rfl⟩

theorem st_slots (q : PosShare TreeShare) (f : StBuf F) :
    (pts stM c q f : sProp 𝕄) = bigSep Finset.univ fun s : Dev nD => pts (slotM s) c q f := by
  unfold pts
  rw [show stM.view.set = (Finset.univ : Finset (Dev nD)).biUnion slotSet from
    (View.set_whole _).trans slots_cover.symm]
  exact pointsTo_biUnion Finset.univ _ slots_disjoint

/-! ## The own statistics -/

section Own
variable (off : Fin 3 → ℕ) (ho : ∀ a, off a + S1x1x384.size a ≤ S16x2x768.size a)

theorem acc_mem {i : S16x2x768.Idx} (hi : i ∈ (stM.access (Rect.unit (s := S16x2x768) off S1x1x384.size ho)).setOn Finset.univ) (a : Fin 3) :
    off a ≤ (i a).val ∧ (i a).val < off a + S1x1x384.size a := by
  have h : (stM.access (Rect.unit (s := S16x2x768) off S1x1x384.size ho)).setOn Finset.univ
      = (Rect.unit (s := S16x2x768) off S1x1x384.size ho).set := (View.setOn_univ _).trans (View.set_slice_whole _ _)
  rw [h, Rect.mem_set_unit] at hi
  exact hi a

theorem own_sub (s : Dev nD) (h0 : off 0 = s.val) :
    (stM.access (Rect.unit (s := S16x2x768) off S1x1x384.size ho)).setOn Finset.univ ⊆ (slotM s).view.set := by
  intro i hi
  have h' : off 0 ≤ (i 0).val ∧ (i 0).val < off 0 + 1 := acc_mem off ho hi 0
  rw [mem_slot]
  omega

theorem own_hit (f : StBuf F) (w : Vec F S1x1x384 .f32) (i : S16x2x768.Idx) (x : S1x1x384.Idx)
    (hx : ∀ a, (i a).val = off a + (x a).val) :
    (stM.access (Rect.unit (s := S16x2x768) off S1x1x384.size ho)).write (Elt F) f w Finset.univ i = w x := by
  have he : i = (stM.access (Rect.unit (s := S16x2x768) off S1x1x384.size ho)).emb x :=
    funext fun a => Fin.ext ((hx a).trans (by show _ = off a + 1 * (x a).val; omega))
  rw [he]
  exact (View.write_emb_of_mem (v := stM.access (Rect.unit (s := S16x2x768) off S1x1x384.size ho)) f w (Finset.mem_univ x)).trans (cast_eq _ _)

theorem own_miss (f : StBuf F) (w : Vec F S1x1x384 .f32) (i : S16x2x768.Idx) (a : Fin 3)
    (hx : (i a).val < off a ∨ off a + S1x1x384.size a ≤ (i a).val) :
    (stM.access (Rect.unit (s := S16x2x768) off S1x1x384.size ho)).write (Elt F) f w Finset.univ i = f i := by
  refine View.write_of_not_mem (v := stM.access (Rect.unit (s := S16x2x768) off S1x1x384.size ho)) f w Finset.univ fun hi => ?_
  have h := acc_mem off ho hi a
  omega

end Own

abbrev rect1 : Rect S16x2x768 := Rect.unit (s := S16x2x768) (k0_off1 c) S1x1x384.size (k0_off1_inb c)
abbrev rect2 : Rect S16x2x768 := Rect.unit (s := S16x2x768) (k0_off2 c) S1x1x384.size (k0_off2_inb c)
abbrev rect3 : Rect S16x2x768 := Rect.unit (s := S16x2x768) (k0_off3 c) S1x1x384.size (k0_off3_inb c)
abbrev rect4 : Rect S16x2x768 := Rect.unit (s := S16x2x768) (k0_off4 c) S1x1x384.size (k0_off4_inb c)

/-- The statistics buffer after the sums of the first half's rows have been stored; then of the last half's. -/
def own1 (x : XBuf F) (f : StBuf F) : StBuf F :=
  (stM.access (rect2 c)).write (Elt F) ((stM.access (rect1 c)).write (Elt F) f (k0_pay1 (loA x)) Finset.univ) (k0_pay2 (loA x)) Finset.univ
def own2 (x : XBuf F) (f : StBuf F) : StBuf F :=
  (stM.access (rect4 c)).write (Elt F) ((stM.access (rect3 c)).write (Elt F) f (k0_pay3 (loB x)) Finset.univ) (k0_pay4 (loB x)) Finset.univ

theorem own_eq (f : StBuf F) (i : S16x2x768.Idx) (hi : (i 0).val = c.val) : own2 c (X c) (own1 c (X c) f) i = statsOf X i := by
  have hc : i 0 = c := Fin.ext hi
  have h1 : (i 1).val < 2 := (i 1).isLt
  have h2 : (i 2).val < 768 := (i 2).isLt
  unfold own2 own1 statsOf
  rw [hc]
  by_cases hl : (i 2).val < 384
  · rw [dif_pos hl, own_miss (k0_off4 c) _ _ _ i 2 (.inl (by rw [off4_eq]; exact hl)),
      own_miss (k0_off3 c) _ _ _ i 2 (.inl (by rw [off3_eq]; exact hl))]
    by_cases hz : (i 1).val = 0
    · rw [if_pos hz, own_miss (k0_off2 c) _ _ _ i 1 (.inl (by rw [off2_eq]; show (i 1).val < 1; omega))]
      refine own_hit (k0_off1 c) _ _ _ i (ixR ⟨(i 2).val, hl⟩) fun a => ?_
      rw [off1_eq]
      match a with
      | ⟨0, _⟩ => exact hi
      | ⟨1, _⟩ => exact hz
      | ⟨2, _⟩ => show (i 2).val = 0 + (i 2).val; omega
    · rw [if_neg hz]
      refine own_hit (k0_off2 c) _ _ _ i (ixR ⟨(i 2).val, hl⟩) fun a => ?_
      rw [off2_eq]
      match a with
      | ⟨0, _⟩ => exact hi
      | ⟨1, _⟩ => show (i 1).val = 1; omega
      | ⟨2, _⟩ => show (i 2).val = 0 + (i 2).val; omega
  · rw [dif_neg hl]
    by_cases hz : (i 1).val = 0
    · rw [if_pos hz, own_miss (k0_off4 c) _ _ _ i 1 (.inl (by rw [off4_eq]; show (i 1).val < 1; omega))]
      refine own_hit (k0_off3 c) _ _ _ i (ixR ⟨(i 2).val - 384, upper_lt (i 2)⟩) fun a => ?_
      rw [off3_eq]
      match a with
      | ⟨0, _⟩ => exact hi
      | ⟨1, _⟩ => exact hz
      | ⟨2, _⟩ => show (i 2).val = 384 + ((i 2).val - 384); omega
    · rw [if_neg hz]
      refine own_hit (k0_off4 c) _ _ _ i (ixR ⟨(i 2).val - 384, upper_lt (i 2)⟩) fun a => ?_
      rw [off4_eq]
      match a with
      | ⟨0, _⟩ => exact hi
      | ⟨1, _⟩ => show (i 1).val = 1; omega
      | ⟨2, _⟩ => show (i 2).val = 384 + ((i 2).val - 384); omega

theorem own_stats (q : PosShare TreeShare) (f : StBuf F) :
    (pts (slotM c) c q (own2 c (X c) (own1 c (X c) f)) : sProp 𝕄) = pts (slotM c) c q (statsOf X) :=
  pointsTo_congr fun i hi => own_eq X c f i ((mem_slot c i).mp hi)

/-! ## Lending and getting back -/

/-- A slot held outright is what is kept of it and the sixteen shares lent. -/
theorem slot_shares (s d : Dev nD) (f : StBuf F) :
    (pts (slotM s) d fullShare f : sProp 𝕄) ⊣⊢ iprop(pts (slotM s) d kept f ∗ bigSep Finset.univ fun p : Dev nD => pts (slotM s) d (lent p) f) :=
  Transfers.pointsTo_toks fullShare 16

end Cert.KernelIdeal.Talk

end
-- ==== Proof.BodyIdeal.lean ====
/-
  The program's parts, one by one: each walks its phase of the exchange some peers further.
-/
module

public import proofs.«01_k».proof.Proof.PiecesIdeal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X Y : Dev nD → XBuf F) (K : GSem nD τ sig → ℕ) (c : Dev nD)

/-! ## The devices the program names -/

theorem dev1 : ∀ c : Dev nD, (⟨k0_dev1 c, k0_dev1_lt c⟩ : Dev nD) = peer c 0 := by decide +kernel
theorem dev2 : ∀ c : Dev nD, (⟨k0_dev2 c, k0_dev2_lt c⟩ : Dev nD) = peer c 1 := by decide +kernel
theorem dev3 : ∀ c : Dev nD, (⟨k0_dev3 c, k0_dev3_lt c⟩ : Dev nD) = peer c 2 := by decide +kernel
theorem dev4 : ∀ c : Dev nD, (⟨k0_dev4 c, k0_dev4_lt c⟩ : Dev nD) = peer c 3 := by decide +kernel
theorem dev5 : ∀ c : Dev nD, (⟨k0_dev5 c, k0_dev5_lt c⟩ : Dev nD) = peer c 4 := by decide +kernel
theorem dev6 : ∀ c : Dev nD, (⟨k0_dev6 c, k0_dev6_lt c⟩ : Dev nD) = peer c 5 := by decide +kernel
theorem dev7 : ∀ c : Dev nD, (⟨k0_dev7 c, k0_dev7_lt c⟩ : Dev nD) = peer c 6 := by decide +kernel
theorem dev8 : ∀ c : Dev nD, (⟨k0_dev8 c, k0_dev8_lt c⟩ : Dev nD) = peer c 7 := by decide +kernel
theorem dev9 : ∀ c : Dev nD, (⟨k0_dev9 c, k0_dev9_lt c⟩ : Dev nD) = peer c 8 := by decide +kernel
theorem dev10 : ∀ c : Dev nD, (⟨k0_dev10 c, k0_dev10_lt c⟩ : Dev nD) = peer c 9 := by decide +kernel
theorem dev11 : ∀ c : Dev nD, (⟨k0_dev11 c, k0_dev11_lt c⟩ : Dev nD) = peer c 10 := by decide +kernel
theorem dev12 : ∀ c : Dev nD, (⟨k0_dev12 c, k0_dev12_lt c⟩ : Dev nD) = peer c 11 := by decide +kernel
theorem dev13 : ∀ c : Dev nD, (⟨k0_dev13 c, k0_dev13_lt c⟩ : Dev nD) = peer c 12 := by decide +kernel
theorem dev14 : ∀ c : Dev nD, (⟨k0_dev14 c, k0_dev14_lt c⟩ : Dev nD) = peer c 13 := by decide +kernel
theorem dev15 : ∀ c : Dev nD, (⟨k0_dev15 c, k0_dev15_lt c⟩ : Dev nD) = peer c 14 := by decide +kernel
theorem dev16 : ∀ c : Dev nD, (⟨k0_dev16 c, k0_dev16_lt c⟩ : Dev nD) = peer c 0 := by decide +kernel
theorem dev17 : ∀ c : Dev nD, (⟨k0_dev17 c, k0_dev17_lt c⟩ : Dev nD) = peer c 1 := by decide +kernel
theorem dev18 : ∀ c : Dev nD, (⟨k0_dev18 c, k0_dev18_lt c⟩ : Dev nD) = peer c 2 := by decide +kernel
theorem dev19 : ∀ c : Dev nD, (⟨k0_dev19 c, k0_dev19_lt c⟩ : Dev nD) = peer c 3 := by decide +kernel
theorem dev20 : ∀ c : Dev nD, (⟨k0_dev20 c, k0_dev20_lt c⟩ : Dev nD) = peer c 4 := by decide +kernel
theorem dev21 : ∀ c : Dev nD, (⟨k0_dev21 c, k0_dev21_lt c⟩ : Dev nD) = peer c 5 := by decide +kernel
theorem dev22 : ∀ c : Dev nD, (⟨k0_dev22 c, k0_dev22_lt c⟩ : Dev nD) = peer c 6 := by decide +kernel
theorem dev23 : ∀ c : Dev nD, (⟨k0_dev23 c, k0_dev23_lt c⟩ : Dev nD) = peer c 7 := by decide +kernel
theorem dev24 : ∀ c : Dev nD, (⟨k0_dev24 c, k0_dev24_lt c⟩ : Dev nD) = peer c 8 := by decide +kernel
theorem dev25 : ∀ c : Dev nD, (⟨k0_dev25 c, k0_dev25_lt c⟩ : Dev nD) = peer c 9 := by decide +kernel
theorem dev26 : ∀ c : Dev nD, (⟨k0_dev26 c, k0_dev26_lt c⟩ : Dev nD) = peer c 10 := by decide +kernel
theorem dev27 : ∀ c : Dev nD, (⟨k0_dev27 c, k0_dev27_lt c⟩ : Dev nD) = peer c 11 := by decide +kernel
theorem dev28 : ∀ c : Dev nD, (⟨k0_dev28 c, k0_dev28_lt c⟩ : Dev nD) = peer c 12 := by decide +kernel
theorem dev29 : ∀ c : Dev nD, (⟨k0_dev29 c, k0_dev29_lt c⟩ : Dev nD) = peer c 13 := by decide +kernel
theorem dev30 : ∀ c : Dev nD, (⟨k0_dev30 c, k0_dev30_lt c⟩ : Dev nD) = peer c 14 := by decide +kernel

/-! ## Parts that only signal, only send or only wait -/

theorem part2_run (w0 : BitVec 32) (w1 : BitVec 32) (w2 : BitVec 32) (w3 : BitVec 1) (Q : _ → sProp 𝕄) :
    iprop(recs X Y K c ∗ SigSt c 2 ∗ (∀ r, SigSt c 4 -∗ Q r))
      ⊢ WP c (k0_part2 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 (SemArray.scalar (sig.barrier 0 rfl)) w1 w2 w3) Q := by
  rw [k0_part2_eq_skeleton]; unfold k0_part2_skel WP; dsimp only
  iintro ⟨#HR, HS, Hk⟩
  rw [wp_bind]
  iapply (sig_step X Y K c 2 (dev3 c)) $$ [HS Hk]
  isplitr; · iexact HR
  isplitl [HS]; · iexact HS
  iintro HS
  rw [wp_bind]
  iapply (sig_step X Y K c 3 (dev4 c)) $$ [HS Hk]
  isplitr; · iexact HR
  isplitl [HS]; · iexact HS
  iintro HS
  rw [wp_pure]
  imodintro
  iapply Hk; iexact HS

theorem part3_run (w0 : BitVec 32) (w1 : BitVec 32) (w2 : BitVec 1) (w3 : BitVec 32) (Q : _ → sProp 𝕄) :
    iprop(recs X Y K c ∗ SigSt c 4 ∗ (∀ r, SigSt c 7 -∗ Q r))
      ⊢ WP c (k0_part3 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 (SemArray.scalar (sig.barrier 0 rfl)) w1 w2 w3) Q := by
  rw [k0_part3_eq_skeleton]; unfold k0_part3_skel WP; dsimp only
  iintro ⟨#HR, HS, Hk⟩
  rw [wp_bind]
  iapply (sig_step X Y K c 4 (dev5 c)) $$ [HS Hk]
  isplitr; · iexact HR
  isplitl [HS]; · iexact HS
  iintro HS
  rw [wp_bind]
  iapply (sig_step X Y K c 5 (dev6 c)) $$ [HS Hk]
  isplitr; · iexact HR
  isplitl [HS]; · iexact HS
  iintro HS
  rw [wp_bind]
  iapply (sig_step X Y K c 6 (dev7 c)) $$ [HS Hk]
  isplitr; · iexact HR
  isplitl [HS]; · iexact HS
  iintro HS
  rw [wp_pure]
  imodintro
  iapply Hk; iexact HS

theorem part4_run (w0 : BitVec 32) (w1 : BitVec 32) (w2 : BitVec 32) (w3 : BitVec 1) (Q : _ → sProp 𝕄) :
    iprop(recs X Y K c ∗ SigSt c 7 ∗ (∀ r, SigSt c 9 -∗ Q r))
      ⊢ WP c (k0_part4 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 (SemArray.scalar (sig.barrier 0 rfl)) w1 w2 w3) Q := by
  rw [k0_part4_eq_skeleton]; unfold k0_part4_skel WP; dsimp only
  iintro ⟨#HR, HS, Hk⟩
  rw [wp_bind]
  iapply (sig_step X Y K c 7 (dev8 c)) $$ [HS Hk]
  isplitr; · iexact HR
  isplitl [HS]; · iexact HS
  iintro HS
  rw [wp_bind]
  iapply (sig_step X Y K c 8 (dev9 c)) $$ [HS Hk]
  isplitr; · iexact HR
  isplitl [HS]; · iexact HS
  iintro HS
  rw [wp_pure]
  imodintro
  iapply Hk; iexact HS

theorem part5_run (w0 : BitVec 32) (w1 : BitVec 32) (w2 : BitVec 1) (w3 : BitVec 32) (Q : _ → sProp 𝕄) :
    iprop(recs X Y K c ∗ SigSt c 9 ∗ (∀ r, SigSt c 12 -∗ Q r))
      ⊢ WP c (k0_part5 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 (SemArray.scalar (sig.barrier 0 rfl)) w1 w2 w3) Q := by
  rw [k0_part5_eq_skeleton]; unfold k0_part5_skel WP; dsimp only
  iintro ⟨#HR, HS, Hk⟩
  rw [wp_bind]
  iapply (sig_step X Y K c 9 (dev10 c)) $$ [HS Hk]
  isplitr; · iexact HR
  isplitl [HS]; · iexact HS
  iintro HS
  rw [wp_bind]
  iapply (sig_step X Y K c 10 (dev11 c)) $$ [HS Hk]
  isplitr; · iexact HR
  isplitl [HS]; · iexact HS
  iintro HS
  rw [wp_bind]
  iapply (sig_step X Y K c 11 (dev12 c)) $$ [HS Hk]
  isplitr; · iexact HR
  isplitl [HS]; · iexact HS
  iintro HS
  rw [wp_pure]
  imodintro
  iapply Hk; iexact HS

theorem part6_run (w0 : BitVec 32) (w1 : BitVec 32) (w2 : BitVec 32) (w3 : BitVec 1) (Q : _ → sProp 𝕄) :
    iprop(recs X Y K c ∗ SigSt c 12 ∗ (∀ r, SigSt c 14 -∗ Q r))
      ⊢ WP c (k0_part6 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 (SemArray.scalar (sig.barrier 0 rfl)) w1 w2 w3) Q := by
  rw [k0_part6_eq_skeleton]; unfold k0_part6_skel WP; dsimp only
  iintro ⟨#HR, HS, Hk⟩
  rw [wp_bind]
  iapply (sig_step X Y K c 12 (dev13 c)) $$ [HS Hk]
  isplitr; · iexact HR
  isplitl [HS]; · iexact HS
  iintro HS
  rw [wp_bind]
  iapply (sig_step X Y K c 13 (dev14 c)) $$ [HS Hk]
  isplitr; · iexact HR
  isplitl [HS]; · iexact HS
  iintro HS
  rw [wp_pure]
  imodintro
  iapply Hk; iexact HS

theorem part9_run (w0 : BitVec 32) (Q : _ → sProp 𝕄) :
    iprop(recs X Y K c ∗ SendSt X c 0 ∗ (∀ r, SendSt X c 2 -∗ Q r))
      ⊢ WP c (k0_part9 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0) Q := by
  rw [k0_part9_eq_skeleton]; unfold k0_part9_skel WP; dsimp only
  iintro ⟨#HR, HS, Hk⟩
  rw [wp_bind]
  iapply (send_step X Y K c 0 (dev16 c) (send_sem c 0) (own_sem c)) $$ [HS Hk]
  isplitr; · iexact HR
  isplitl [HS]; · iexact HS
  iintro HS
  rw [wp_bind]
  iapply (send_step X Y K c 1 (dev17 c) (send_sem c 1) (own_sem c)) $$ [HS Hk]
  isplitr; · iexact HR
  isplitl [HS]; · iexact HS
  iintro HS
  rw [wp_pure]
  imodintro
  iapply Hk; iexact HS

theorem part10_run (w0 : BitVec 32) (w1 : BitVec 32) (w2 : BitVec 32) (w3 : BitVec 1) (Q : _ → sProp 𝕄) :
    iprop(recs X Y K c ∗ SendSt X c 2 ∗ (∀ r, SendSt X c 4 -∗ Q r))
      ⊢ WP c (k0_part10 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1 w2 w3) Q := by
  rw [k0_part10_eq_skeleton]; unfold k0_part10_skel WP; dsimp only
  iintro ⟨#HR, HS, Hk⟩
  rw [wp_bind]
  iapply (send_step X Y K c 2 (dev18 c) (send_sem c 2) (own_sem c)) $$ [HS Hk]
  isplitr; · iexact HR
  isplitl [HS]; · iexact HS
  iintro HS
  rw [wp_bind]
  iapply (send_step X Y K c 3 (dev19 c) (send_sem c 3) (own_sem c)) $$ [HS Hk]
  isplitr; · iexact HR
  isplitl [HS]; · iexact HS
  iintro HS
  rw [wp_pure]
  imodintro
  iapply Hk; iexact HS

theorem part11_run (w0 : BitVec 32) (w1 : BitVec 32) (w2 : BitVec 32) (w3 : BitVec 1) (w4 : BitVec 32) (Q : _ → sProp 𝕄) :
    iprop(recs X Y K c ∗ SendSt X c 4 ∗ (∀ r, SendSt X c 5 -∗ Q r))
      ⊢ WP c (k0_part11 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1 w2 w3 w4) Q := by
  rw [k0_part11_eq_skeleton]; unfold k0_part11_skel WP; dsimp only
  iintro ⟨#HR, HS, Hk⟩
  rw [wp_bind]
  iapply (send_step X Y K c 4 (dev20 c) (send_sem c 4) (own_sem c)) $$ [HS Hk]
  isplitr; · iexact HR
  isplitl [HS]; · iexact HS
  iintro HS
  rw [wp_pure]
  imodintro
  iapply Hk; iexact HS

theorem part12_run (w0 : BitVec 32) (Q : _ → sProp 𝕄) :
    iprop(recs X Y K c ∗ SendSt X c 5 ∗ (∀ r, SendSt X c 7 -∗ Q r))
      ⊢ WP c (k0_part12 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0) Q := by
  rw [k0_part12_eq_skeleton]; unfold k0_part12_skel WP; dsimp only
  iintro ⟨#HR, HS, Hk⟩
  rw [wp_bind]
  iapply (send_step X Y K c 5 (dev21 c) (send_sem c 5) (own_sem c)) $$ [HS Hk]
  isplitr; · iexact HR
  isplitl [HS]; · iexact HS
  iintro HS
  rw [wp_bind]
  iapply (send_step X Y K c 6 (dev22 c) (send_sem c 6) (own_sem c)) $$ [HS Hk]
  isplitr; · iexact HR
  isplitl [HS]; · iexact HS
  iintro HS
  rw [wp_pure]
  imodintro
  iapply Hk; iexact HS

theorem part13_run (w0 : BitVec 32) (w1 : BitVec 32) (w2 : BitVec 32) (Q : _ → sProp 𝕄) :
    iprop(recs X Y K c ∗ SendSt X c 7 ∗ (∀ r, SendSt X c 9 -∗ Q r))
      ⊢ WP c (k0_part13 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1 w2) Q := by
  rw [k0_part13_eq_skeleton]; unfold k0_part13_skel WP; dsimp only
  iintro ⟨#HR, HS, Hk⟩
  rw [wp_bind]
  iapply (send_step X Y K c 7 (dev23 c) (send_sem c 7) (own_sem c)) $$ [HS Hk]
  isplitr; · iexact HR
  isplitl [HS]; · iexact HS
  iintro HS
  rw [wp_bind]
  iapply (send_step X Y K c 8 (dev24 c) (send_sem c 8) (own_sem c)) $$ [HS Hk]
  isplitr; · iexact HR
  isplitl [HS]; · iexact HS
  iintro HS
  rw [wp_pure]
  imodintro
  iapply Hk; iexact HS

theorem part14_run (w0 : BitVec 32) (w1 : BitVec 32) (w2 : BitVec 32) (w3 : BitVec 1) (w4 : BitVec 32) (Q : _ → sProp 𝕄) :
    iprop(recs X Y K c ∗ SendSt X c 9 ∗ (∀ r, SendSt X c 11 -∗ Q r))
      ⊢ WP c (k0_part14 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1 w2 w3 w4) Q := by
  rw [k0_part14_eq_skeleton]; unfold k0_part14_skel WP; dsimp only
  iintro ⟨#HR, HS, Hk⟩
  rw [wp_bind]
  iapply (send_step X Y K c 9 (dev25 c) (send_sem c 9) (own_sem c)) $$ [HS Hk]
  isplitr; · iexact HR
  isplitl [HS]; · iexact HS
  iintro HS
  rw [wp_bind]
  iapply (send_step X Y K c 10 (dev26 c) (send_sem c 10) (own_sem c)) $$ [HS Hk]
  isplitr; · iexact HR
  isplitl [HS]; · iexact HS
  iintro HS
  rw [wp_pure]
  imodintro
  iapply Hk; iexact HS

theorem part15_run (w0 : BitVec 32) (w1 : BitVec 32) (Q : _ → sProp 𝕄) :
    iprop(recs X Y K c ∗ SendSt X c 11 ∗ (∀ r, SendSt X c 12 -∗ Q r))
      ⊢ WP c (k0_part15 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1) Q := by
  rw [k0_part15_eq_skeleton]; unfold k0_part15_skel WP; dsimp only
  iintro ⟨#HR, HS, Hk⟩
  rw [wp_bind]
  iapply (send_step X Y K c 11 (dev27 c) (send_sem c 11) (own_sem c)) $$ [HS Hk]
  isplitr; · iexact HR
  isplitl [HS]; · iexact HS
  iintro HS
  rw [wp_pure]
  imodintro
  iapply Hk; iexact HS

theorem part16_run (w0 : BitVec 32) (Q : _ → sProp 𝕄) :
    iprop(recs X Y K c ∗ SendSt X c 12 ∗ (∀ r, SendSt X c 14 -∗ Q r))
      ⊢ WP c (k0_part16 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0) Q := by
  rw [k0_part16_eq_skeleton]; unfold k0_part16_skel WP; dsimp only
  iintro ⟨#HR, HS, Hk⟩
  rw [wp_bind]
  iapply (send_step X Y K c 12 (dev28 c) (send_sem c 12) (own_sem c)) $$ [HS Hk]
  isplitr; · iexact HR
  isplitl [HS]; · iexact HS
  iintro HS
  rw [wp_bind]
  iapply (send_step X Y K c 13 (dev29 c) (send_sem c 13) (own_sem c)) $$ [HS Hk]
  isplitr; · iexact HR
  isplitl [HS]; · iexact HS
  iintro HS
  rw [wp_pure]
  imodintro
  iapply Hk; iexact HS

theorem part18_run (w0 : BitVec 32) (Q : _ → sProp 𝕄) :
    iprop(recs X Y K c ∗ RecvSt X c 0 ∗ (∀ r, RecvSt X c 2 -∗ Q r))
      ⊢ WP c (k0_part18 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0) Q := by
  rw [k0_part18_eq_skeleton]; unfold k0_part18_skel WP; dsimp only
  iintro ⟨#HR, HS, Hk⟩
  rw [wp_bind]
  iapply (recv_step X Y K c 0 (recv_sem c 0)) $$ [HS Hk]
  isplitr; · iexact HR
  isplitl [HS]; · iexact HS
  iintro HS
  rw [wp_bind]
  iapply (recv_step X Y K c 1 (recv_sem c 1)) $$ [HS Hk]
  isplitr; · iexact HR
  isplitl [HS]; · iexact HS
  iintro HS
  rw [wp_pure]
  imodintro
  iapply Hk; iexact HS

theorem part19_run (w0 : BitVec 32) (w1 : BitVec 32) (w2 : BitVec 32) (Q : _ → sProp 𝕄) :
    iprop(recs X Y K c ∗ RecvSt X c 2 ∗ (∀ r, RecvSt X c 4 -∗ Q r))
      ⊢ WP c (k0_part19 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1 w2) Q := by
  rw [k0_part19_eq_skeleton]; unfold k0_part19_skel WP; dsimp only
  iintro ⟨#HR, HS, Hk⟩
  rw [wp_bind]
  iapply (recv_step X Y K c 2 (recv_sem c 2)) $$ [HS Hk]
  isplitr; · iexact HR
  isplitl [HS]; · iexact HS
  iintro HS
  rw [wp_bind]
  iapply (recv_step X Y K c 3 (recv_sem c 3)) $$ [HS Hk]
  isplitr; · iexact HR
  isplitl [HS]; · iexact HS
  iintro HS
  rw [wp_pure]
  imodintro
  iapply Hk; iexact HS

theorem part20_run (w0 : BitVec 32) (w1 : BitVec 32) (w2 : BitVec 32) (w3 : BitVec 1) (w4 : BitVec 1) (w5 : BitVec 32) (Q : _ → sProp 𝕄) :
    iprop(recs X Y K c ∗ RecvSt X c 4 ∗ (∀ r, RecvSt X c 6 -∗ Q r))
      ⊢ WP c (k0_part20 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1 w2 w3 w4 w5) Q := by
  rw [k0_part20_eq_skeleton]; unfold k0_part20_skel WP; dsimp only
  iintro ⟨#HR, HS, Hk⟩
  rw [wp_bind]
  iapply (recv_step X Y K c 4 (recv_sem c 4)) $$ [HS Hk]
  isplitr; · iexact HR
  isplitl [HS]; · iexact HS
  iintro HS
  rw [wp_bind]
  iapply (recv_step X Y K c 5 (recv_sem c 5)) $$ [HS Hk]
  isplitr; · iexact HR
  isplitl [HS]; · iexact HS
  iintro HS
  rw [wp_pure]
  imodintro
  iapply Hk; iexact HS

theorem part21_run (w0 : BitVec 32) (w1 : BitVec 32) (w2 : BitVec 32) (Q : _ → sProp 𝕄) :
    iprop(recs X Y K c ∗ RecvSt X c 6 ∗ (∀ r, RecvSt X c 8 -∗ Q r))
      ⊢ WP c (k0_part21 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1 w2) Q := by
  rw [k0_part21_eq_skeleton]; unfold k0_part21_skel WP; dsimp only
  iintro ⟨#HR, HS, Hk⟩
  rw [wp_bind]
  iapply (recv_step X Y K c 6 (recv_sem c 6)) $$ [HS Hk]
  isplitr; · iexact HR
  isplitl [HS]; · iexact HS
  iintro HS
  rw [wp_bind]
  iapply (recv_step X Y K c 7 (recv_sem c 7)) $$ [HS Hk]
  isplitr; · iexact HR
  isplitl [HS]; · iexact HS
  iintro HS
  rw [wp_pure]
  imodintro
  iapply Hk; iexact HS

theorem part22_run (w0 : BitVec 32) (w1 : BitVec 32) (Q : _ → sProp 𝕄) :
    iprop(recs X Y K c ∗ RecvSt X c 8 ∗ (∀ r, RecvSt X c 9 -∗ Q r))
      ⊢ WP c (k0_part22 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1) Q := by
  rw [k0_part22_eq_skeleton]; unfold k0_part22_skel WP; dsimp only
  iintro ⟨#HR, HS, Hk⟩
  rw [wp_bind]
  iapply (recv_step X Y K c 8 (recv_sem c 8)) $$ [HS Hk]
  isplitr; · iexact HR
  isplitl [HS]; · iexact HS
  iintro HS
  rw [wp_pure]
  imodintro
  iapply Hk; iexact HS

theorem part23_run (w0 : BitVec 32) (Q : _ → sProp 𝕄) :
    iprop(recs X Y K c ∗ RecvSt X c 9 ∗ (∀ r, RecvSt X c 11 -∗ Q r))
      ⊢ WP c (k0_part23 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0) Q := by
  rw [k0_part23_eq_skeleton]; unfold k0_part23_skel WP; dsimp only
  iintro ⟨#HR, HS, Hk⟩
  rw [wp_bind]
  iapply (recv_step X Y K c 9 (recv_sem c 9)) $$ [HS Hk]
  isplitr; · iexact HR
  isplitl [HS]; · iexact HS
  iintro HS
  rw [wp_bind]
  iapply (recv_step X Y K c 10 (recv_sem c 10)) $$ [HS Hk]
  isplitr; · iexact HR
  isplitl [HS]; · iexact HS
  iintro HS
  rw [wp_pure]
  imodintro
  iapply Hk; iexact HS

theorem part24_run (w0 : BitVec 32) (Q : _ → sProp 𝕄) :
    iprop(recs X Y K c ∗ RecvSt X c 11 ∗ (∀ r, RecvSt X c 13 -∗ Q r))
      ⊢ WP c (k0_part24 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0) Q := by
  rw [k0_part24_eq_skeleton]; unfold k0_part24_skel WP; dsimp only
  iintro ⟨#HR, HS, Hk⟩
  rw [wp_bind]
  iapply (recv_step X Y K c 11 (recv_sem c 11)) $$ [HS Hk]
  isplitr; · iexact HR
  isplitl [HS]; · iexact HS
  iintro HS
  rw [wp_bind]
  iapply (recv_step X Y K c 12 (recv_sem c 12)) $$ [HS Hk]
  isplitr; · iexact HR
  isplitl [HS]; · iexact HS
  iintro HS
  rw [wp_pure]
  imodintro
  iapply Hk; iexact HS

theorem part28_run (Q : _ → sProp 𝕄) :
    iprop(recs X Y K c ∗ SentSt X c 1 ∗ (∀ r, SentSt X c 6 -∗ Q r))
      ⊢ WP c (k0_part28 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c) Q := by
  rw [k0_part28_eq_skeleton]; unfold k0_part28_skel WP; dsimp only
  iintro ⟨#HR, HS, Hk⟩
  rw [wp_bind]
  iapply (sent_step X Y K c 1 (send_sem c 1)) $$ [HS Hk]
  isplitr; · iexact HR
  isplitl [HS]; · iexact HS
  iintro HS
  rw [wp_bind]
  iapply (sent_step X Y K c 2 (send_sem c 2)) $$ [HS Hk]
  isplitr; · iexact HR
  isplitl [HS]; · iexact HS
  iintro HS
  rw [wp_bind]
  iapply (sent_step X Y K c 3 (send_sem c 3)) $$ [HS Hk]
  isplitr; · iexact HR
  isplitl [HS]; · iexact HS
  iintro HS
  rw [wp_bind]
  iapply (sent_step X Y K c 4 (send_sem c 4)) $$ [HS Hk]
  isplitr; · iexact HR
  isplitl [HS]; · iexact HS
  iintro HS
  rw [wp_bind]
  iapply (sent_step X Y K c 5 (send_sem c 5)) $$ [HS Hk]
  isplitr; · iexact HR
  isplitl [HS]; · iexact HS
  iintro HS
  rw [wp_pure]
  imodintro
  iapply Hk; iexact HS

theorem part29_run (Q : _ → sProp 𝕄) :
    iprop(recs X Y K c ∗ SentSt X c 6 ∗ (∀ r, SentSt X c 11 -∗ Q r))
      ⊢ WP c (k0_part29 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c) Q := by
  rw [k0_part29_eq_skeleton]; unfold k0_part29_skel WP; dsimp only
  iintro ⟨#HR, HS, Hk⟩
  rw [wp_bind]
  iapply (sent_step X Y K c 6 (send_sem c 6)) $$ [HS Hk]
  isplitr; · iexact HR
  isplitl [HS]; · iexact HS
  iintro HS
  rw [wp_bind]
  iapply (sent_step X Y K c 7 (send_sem c 7)) $$ [HS Hk]
  isplitr; · iexact HR
  isplitl [HS]; · iexact HS
  iintro HS
  rw [wp_bind]
  iapply (sent_step X Y K c 8 (send_sem c 8)) $$ [HS Hk]
  isplitr; · iexact HR
  isplitl [HS]; · iexact HS
  iintro HS
  rw [wp_bind]
  iapply (sent_step X Y K c 9 (send_sem c 9)) $$ [HS Hk]
  isplitr; · iexact HR
  isplitl [HS]; · iexact HS
  iintro HS
  rw [wp_bind]
  iapply (sent_step X Y K c 10 (send_sem c 10)) $$ [HS Hk]
  isplitr; · iexact HR
  isplitl [HS]; · iexact HS
  iintro HS
  rw [wp_pure]
  imodintro
  iapply Hk; iexact HS

/-! ## Semaphores of the local copies, and the sets loads and stores touch -/

theorem copy_sem0 : ((cc0_scratch5.slice (Rect.unit (s := S4) ![0] S1.size inb_S4_S1_0)).squeeze S_ squeezes_S1_S_).sem = copyS 0 := by decide +kernel
theorem copy_sem1 : ((cc0_scratch5.slice (Rect.unit (s := S4) ![1] S1.size inb_S4_S1_1)).squeeze S_ squeezes_S1_S_).sem = copyS 1 := by decide +kernel
theorem copy_sem2 : ((cc0_scratch5.slice (Rect.unit (s := S4) ![2] S1.size inb_S4_S1_2)).squeeze S_ squeezes_S1_S_).sem = copyS 2 := by decide +kernel
theorem copy_sem3 : ((cc0_scratch5.slice (Rect.unit (s := S4) ![3] S1.size inb_S4_S1_3)).squeeze S_ squeezes_S1_S_).sem = copyS 3 := by decide +kernel

theorem touch_whole {b : Ref sig .tc} (s : Finset b.ty.shape.Idx) : (Memref.whole b : Memref sig .tc _ _ _).view.setOn s = s := by
  ext i
  exact ⟨fun h => by obtain ⟨j, hj, rfl⟩ := Finset.mem_map.mp h; exact hj, fun h => Finset.mem_map.mpr ⟨i, h, rfl⟩⟩

theorem reads_xA : xM.view.setOn rowsA.toLoadRect.set ⊆ xA.view.set := by rw [xA_set]; exact (touch_whole _).le
theorem reads_xB : xM.view.setOn rowsB.toLoadRect.set ⊆ xB.view.set := by rw [xB_set]; exact (touch_whole _).le
theorem reads_oA : oM.view.setOn rowsA.toLoadRect.set ⊆ oA.view.set := by rw [oA_set]; exact (touch_whole _).le
theorem reads_oB : oM.view.setOn rowsB.toLoadRect.set ⊆ oB.view.set := by rw [oB_set]; exact (touch_whole _).le
theorem reads_own {off : Fin 3 → ℕ} (ho : ∀ a, off a + S1x1x384.size a ≤ S16x2x768.size a) (s : Dev nD) (h0 : off 0 = s.val) :
    stM.view.setOn (Rect.unit (s := S16x2x768) off S1x1x384.size ho).toLoadRect.set ⊆ (slotM s).view.set :=
  Finset.Subset.trans ((touch_whole _).le.trans (View.set_slice_whole _ _).ge) (own_sub off ho s h0)

theorem own_at1 : k0_off1 c 0 = c.val := congrFun (off1_eq c) 0
theorem own_at2 : k0_off2 c 0 = c.val := congrFun (off2_eq c) 0
theorem own_at3 : k0_off3 c 0 = c.val := congrFun (off3_eq c) 0
theorem own_at4 : k0_off4 c 0 = c.val := congrFun (off4_eq c) 0

theorem copy_pay0 : copyPay X Y c 0 = iprop(pts xA c fullShare (X c) ∗ pts xinA c fullShare (X c)) := rfl
theorem copy_pay1 : copyPay X Y c 1 = iprop(pts xB c fullShare (X c) ∗ pts xinB c fullShare (X c)) := rfl
theorem copy_pay2 : copyPay X Y c 2 = iprop(pts youtA c fullShare (Y c) ∗ ∃ f, pts oA c fullShare f) := rfl
theorem copy_pay3 : copyPay X Y c 3 = iprop(pts youtB c fullShare (Y c) ∗ ∃ f, pts oB c fullShare f) := rfl

/-! ## The first part: the device's own number, two signals -/

theorem part1_run (Q : _ → sProp 𝕄) :
    iprop(recs X Y K c ∗ SigSt c 0 ∗ (∀ w, ∀ w', ∀ w'', ∀ w''', SigSt c 2 -∗ Q ⟨c, w, (SemArray.scalar (sig.barrier 0 rfl)), w', w'', w'''⟩))
      ⊢ WP c (k0_part1 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5) Q := by
  rw [k0_part1_eq_skeleton]; unfold k0_part1_skel WP; dsimp only
  iintro ⟨#HR, HS, Hk⟩
  rw [show (Prog.lift TpuEff.deviceId : Prog (TpuEff nD τ sig (Elt F) Λ₀ .tc) (Dev nD)) = .op .deviceId .ret from rfl, wp_bind, wp_deviceId, wp_ret]
  imodintro
  rw [wp_bind]
  iapply (sig_step X Y K c 0 (dev1 c)) $$ [HS Hk]
  isplitr; · iexact HR
  isplitl [HS]; · iexact HS
  iintro HS
  rw [wp_bind]
  iapply (sig_step X Y K c 1 (dev2 c)) $$ [HS Hk]
  isplitr; · iexact HR
  isplitl [HS]; · iexact HS
  iintro HS
  rw [wp_pure]
  imodintro
  iapply Hk; iexact HS

/-! ## The block comes in and its statistics are taken -/

/-- What the device still owes its peers' receive cells. -/
abbrev Ow (S : Finset (Dev nD)) : sProp 𝕄 := iprop(∃ W, owes (c : Thread nD τ) (owedRecv S c) W)

theorem sigs_done : SigSt (F := F) c ((14 : Fin 15).val + 1) ⊢ Ow (F := F) c (Finset.univ.erase c) := by
  unfold SigSt
  rw [show rem c ((14 : Fin 15).val + 1) = ∅ from rem_all c, show owedBar ∅ = 0 from Finset.sum_empty, zero_add]
  iintro ⟨H, -⟩
  iexact H

theorem part7_run (w0 : BitVec 32) (w1 : BitVec 32) (w2 : BitVec 1) (w3 : BitVec 32) (f : StBuf F) (Q : _ → sProp 𝕄) :
    iprop(recs X Y K c ∗ SigSt c 14 ∗ pts xinA c fullShare (X c) ∗ (∃ f, pts xA c fullShare f) ∗ pts xinB c fullShare (X c)
        ∗ (∃ f, pts xB c fullShare f) ∗ dutyTok ER (copyCell c 0) 0 c ∗ dutyTok ER (copyCell c 1) 0 c ∗ atPos ER (copyCell c 0) 0 ∅ 0
        ∗ pts (slotM c) c fullShare f
        ∗ ((Ow (F := F) c (Finset.univ.erase c) ∗ pts xA c fullShare (X c) ∗ pts xinA c fullShare (X c) ∗ atPos ER (copyCell c 0) 1 ∅ 0
            ∗ cred (tallyAt (copyCell c 1) () (Nc 1)) ∗ pts (slotM c) c fullShare (own1 c (X c) f)) -∗ Q ⟨⟩))
      ⊢ WP c (k0_part7 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 (SemArray.scalar (sig.barrier 0 rfl)) w1 w2 w3) Q := by
  rw [k0_part7_eq_skeleton]; unfold k0_part7_skel WP; dsimp only
  iintro ⟨#HR, HS, HiA, HxA, HiB, HxB, Ht0, Ht1, Hat, Hs, Hk⟩
  rw [wp_bind]
  iapply (sig_step X Y K c 14 (dev15 c)) $$ [HS HiA HxA HiB HxB Ht0 Ht1 Hat Hs Hk]
  isplitr; · iexact HR
  isplitl [HS]; · iexact HS
  iintro HS
  ihave HO := (sigs_done (F := F) c) $$ HS
  rw [wp_bind]
  iapply (copy_step X Y K c 0 copy_sem0 xinA xA (X c) rfl _ _ _ (fun fd => by rw [xA_landed c (X c) fd]; exact .refl)) $$ [HiA HxA Ht0 HO HiB HxB Ht1 Hat Hs Hk]
  isplitr; · iexact HR
  isplitl [HiA]; · iexact HiA
  isplitl [HxA]; · iexact HxA
  isplitl [Ht0]; · iexact Ht0
  iintro Hc0
  rw [wp_bind]
  iapply (copy_step X Y K c 1 copy_sem1 xinB xB (X c) rfl _ _ _ (fun fd => by rw [xB_landed c (X c) fd]; exact .refl)) $$ [HiB HxB Ht1 HO Hc0 Hat Hs Hk]
  isplitr; · iexact HR
  isplitl [HiB]; · iexact HiB
  isplitl [HxB]; · iexact HxB
  isplitl [Ht1]; · iexact Ht1
  iintro Hc1
  rw [wp_bind]
  iapply (copied_step X Y K c 0 (Finset.univ.erase c) copy_sem0 xinA xA rfl) $$ [HO Hc0 Hc1 Hat Hs Hk]
  isplitr; · iexact HR
  isplitl [HO]; · iexact HO
  isplitl [Hc0]; · iexact Hc0
  isplitl [Hat]; · iexact Hat
  iintro ⟨HO, Hat, Hp⟩
  icases (Entails.of_eq (copy_pay0 X Y c)) $$ Hp with ⟨HxA, HiA⟩
  rw [wp_bind]
  iapply (load_step c xM rowsA.toLoadRect _ (S := xA.view.set) fullShare (X c) reads_xA) $$ [HxA HiA HO Hc1 Hat Hs Hk]
  isplitl [HxA]; · iexact HxA
  iintro HxA
  rw [wp_bind]
  iapply (load_step c stM _ _ (S := (slotM c).view.set) fullShare f (reads_own (k0_off1_inb c) c (own_at1 c))) $$ [HxA HiA HO Hc1 Hat Hs Hk]
  isplitl [Hs]; · iexact Hs
  iintro Hs
  rw [wp_bind]
  iapply (store_step c stM (rect1 c) _ _ _ (S := (slotM c).view.set) f (own_sub _ (k0_off1_inb c) c (own_at1 c))) $$ [HxA HiA HO Hc1 Hat Hs Hk]
  isplitl [Hs]; · iexact Hs
  iintro Hs
  rw [wp_bind]
  iapply (load_step c stM _ _ (S := (slotM c).view.set) fullShare _ (reads_own (k0_off2_inb c) c (own_at2 c))) $$ [HxA HiA HO Hc1 Hat Hs Hk]
  isplitl [Hs]; · iexact Hs
  iintro Hs
  rw [wp_bind]
  iapply (store_step c stM (rect2 c) _ _ _ (S := (slotM c).view.set) _ (own_sub _ (k0_off2_inb c) c (own_at2 c))) $$ [HxA HiA HO Hc1 Hat Hs Hk]
  isplitl [Hs]; · iexact Hs
  iintro Hs
  rw [wp_pure]
  imodintro
  iapply Hk
  isplitl [HO]; · iexact HO
  isplitl [HxA]; · iexact HxA
  isplitl [HiA]; · iexact HiA
  isplitl [Hat]; · iexact Hat
  isplitl [Hc1]; · iexact Hc1
  iexact Hs

theorem own_written (f : StBuf F) :
    ((stM.access (rect4 c)).loc (c : Thread nD τ) ↦[(slotM c).view.set]{fullShare} (stM.access (rect4 c)).write (Elt F)
      ((stM.access (rect3 c)).write (Elt F) (own1 c (X c) f) (k0_pay3 (xM.view.readAt (Elt F) rowsB.toLoadRect (X c))) Finset.univ)
      (k0_pay4 (xM.view.readAt (Elt F) rowsB.toLoadRect (X c))) Finset.univ : sProp 𝕄)
      ⊢ pts (slotM c) c fullShare (statsOf X) :=
  Entails.of_eq (own_stats X c fullShare f)

theorem part8_run (w0 : BitVec 32) (f : StBuf F) (Q : _ → sProp 𝕄) :
    iprop(recs X Y K c ∗ Ow (F := F) c (Finset.univ.erase c) ∗ cred (tallyAt (copyCell c 1) () (Nc 1)) ∗ atPos ER (copyCell c 1) 0 ∅ 0
        ∗ pts (slotM c) c fullShare (own1 c (X c) f) ∗ cred (tallyAt (barCell c) () 15) ∗ atPos ER (barCell c) 0 ∅ 0
        ∗ ((Ow (F := F) c (Finset.univ.erase c) ∗ pts xB c fullShare (X c) ∗ pts xinB c fullShare (X c) ∗ atPos ER (copyCell c 1) 1 ∅ 0
            ∗ pts (slotM c) c fullShare (statsOf X) ∗ atPos ER (barCell c) 1 ∅ 0 ∗ bigSep (Finset.univ.erase c) fun d => barPay c d) -∗ Q ⟨⟩))
      ⊢ WP c (k0_part8 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 (SemArray.scalar (sig.barrier 0 rfl))) Q := by
  rw [k0_part8_eq_skeleton]; unfold k0_part8_skel WP; dsimp only
  iintro ⟨#HR, HO, Hc1, Hat, Hs, Hb, Hbat, Hk⟩
  rw [wp_bind]
  iapply (copied_step X Y K c 1 (Finset.univ.erase c) copy_sem1 xinB xB rfl) $$ [HO Hc1 Hat Hs Hb Hbat Hk]
  isplitr; · iexact HR
  isplitl [HO]; · iexact HO
  isplitl [Hc1]; · iexact Hc1
  isplitl [Hat]; · iexact Hat
  iintro ⟨HO, Hat, Hp⟩
  icases (Entails.of_eq (copy_pay1 X Y c)) $$ Hp with ⟨HxB, HiB⟩
  rw [wp_bind]
  iapply (load_step c xM rowsB.toLoadRect _ (S := xB.view.set) fullShare (X c) reads_xB) $$ [HxB HiB HO Hb Hbat Hat Hs Hk]
  isplitl [HxB]; · iexact HxB
  iintro HxB
  rw [wp_bind]
  iapply (load_step c stM _ _ (S := (slotM c).view.set) fullShare _ (reads_own (k0_off3_inb c) c (own_at3 c))) $$ [HxB HiB HO Hb Hbat Hat Hs Hk]
  isplitl [Hs]; · iexact Hs
  iintro Hs
  rw [wp_bind]
  iapply (store_step c stM (rect3 c) _ _ _ (S := (slotM c).view.set) _ (own_sub _ (k0_off3_inb c) c (own_at3 c))) $$ [HxB HiB HO Hb Hbat Hat Hs Hk]
  isplitl [Hs]; · iexact Hs
  iintro Hs
  rw [wp_bind]
  iapply (load_step c stM _ _ (S := (slotM c).view.set) fullShare _ (reads_own (k0_off4_inb c) c (own_at4 c))) $$ [HxB HiB HO Hb Hbat Hat Hs Hk]
  isplitl [Hs]; · iexact Hs
  iintro Hs
  rw [wp_bind]
  iapply (store_step c stM (rect4 c) _ _ _ (S := (slotM c).view.set) _ (own_sub _ (k0_off4_inb c) c (own_at4 c))) $$ [HxB HiB HO Hb Hbat Hat Hs Hk]
  isplitl [Hs]; · iexact Hs
  iintro Hs
  ihave Hs := (own_written X c f) $$ Hs
  rw [wp_bind]
  iapply (bar_step X Y K c) $$ [HxB HiB HO Hb Hbat Hat Hs Hk]
  isplitr; · iexact HR
  isplitl [HO]; · iexact HO
  isplitl [Hb]; · iexact Hb
  isplitl [Hbat]; · iexact Hbat
  iintro ⟨HO, Hbat, Hpay⟩
  rw [wp_pure]
  imodintro
  iapply Hk
  isplitl [HO]; · iexact HO
  isplitl [HxB]; · iexact HxB
  isplitl [HiB]; · iexact HiB
  isplitl [Hat]; · iexact Hat
  isplitl [Hs]; · iexact Hs
  isplitl [Hbat]; · iexact Hbat
  iexact Hpay

/-! ## The last send, and the block scaled by the weights -/

theorem z2 : (![0, 0] : Fin 2 → ℕ) = fun _ => 0 := by decide
theorem z3 : (![0, 0, 0] : Fin 3 → ℕ) = fun _ => 0 := by decide
theorem full_sub {b : Ref sig .tc} (s : Finset b.ty.shape.Idx) :
    (Memref.whole b : Memref sig .tc _ _ _).view.setOn s ⊆ (Memref.whole b : Memref sig .tc _ _ _).view.set :=
  Finset.map_subset_map.mpr (Finset.subset_univ s)

theorem read_gM (g : GBuf F) : gM.view.readAt (Elt F) (Rect.unit (s := S1x512) ![0, 0] S1x512.size inb_S1x512_S1x512_0_0).toLoadRect g = g :=
  Memref.readAt_unit_zero (Elt F) cc0_stg0_0 z2 _ g
theorem read_bM (g : GBuf F) : bM.view.readAt (Elt F) (Rect.unit (s := S1x512) ![0, 0] S1x512.size inb_S1x512_S1x512_0_0).toLoadRect g = g :=
  Memref.readAt_unit_zero (Elt F) cc0_stg1_0 z2 _ g
theorem read_xM (x : XBuf F) : xM.view.readAt (Elt F) (Rect.unit (s := S768x512) ![0, 0] S768x512.size inb_S768x512_S768x512_0_0).toLoadRect x = x :=
  Memref.readAt_unit_zero (Elt F) cc0_scratch0 z2 _ x
theorem read_stM (f : StBuf F) :
    stM.view.readAt (Elt F) (Rect.unit (s := S16x2x768) ![0, 0, 0] S16x2x768.size inb_S16x2x768_S16x2x768_0_0_0).toLoadRect f = f :=
  Memref.readAt_unit_zero (Elt F) cc0_scratch2 z3 _ f
theorem write_oM (f w : XBuf F) :
    (oM.access (Rect.unit (s := S768x512) ![0, 0] S768x512.size inb_S768x512_S768x512_0_0)).write (Elt F) f w Finset.univ = w :=
  Memref.write_access_unit_zero_univ (Elt F) cc0_scratch1 z2 _ f w

theorem part17_run (w0 : BitVec 32) (w1 : BitVec 32) (w2 : BitVec 32) (w3 : BitVec 1) (g : GBuf F) (Q : _ → sProp 𝕄) :
    iprop(recs X Y K c ∗ SendSt X c 14 ∗ pts gM c fullShare g ∗ pts xM c fullShare (X c) ∗ (∃ f, pts oM c fullShare f)
        ∗ ((SendSt X c 15 ∗ pts gM c fullShare g ∗ pts xM c fullShare (X c) ∗ pts oM c fullShare (scaled (X c) g)) -∗ Q (k0_pay5 g)))
      ⊢ WP c (k0_part17 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1 w2 w3) Q := by
  rw [k0_part17_eq_skeleton]; unfold k0_part17_skel WP; dsimp only
  iintro ⟨#HR, HS, Hg, Hx, ⟨%f, Ho⟩, Hk⟩
  rw [wp_bind]
  iapply (send_step X Y K c 14 (dev30 c) (send_sem c 14) (own_sem c)) $$ [HS Hg Hx Ho Hk]
  isplitr; · iexact HR
  isplitl [HS]; · iexact HS
  iintro HS
  rw [wp_bind]
  iapply (load_step c gM _ _ (S := gM.view.set) fullShare g (full_sub _)) $$ [HS Hg Hx Ho Hk]
  isplitl [Hg]; · iexact Hg
  rw [read_gM]
  iintro Hg
  rw [wp_bind]
  iapply (load_step c xM _ _ (S := xM.view.set) fullShare (X c) (full_sub _)) $$ [HS Hg Hx Ho Hk]
  isplitl [Hx]; · iexact Hx
  rw [read_xM]
  iintro Hx
  rw [wp_bind]
  iapply (load_step c oM _ _ (S := oM.view.set) fullShare f (full_sub _)) $$ [HS Hg Hx Ho Hk]
  isplitl [Ho]; · iexact Ho
  iintro Ho
  rw [wp_bind]
  iapply (store_step c oM (Rect.unit (s := S768x512) ![0, 0] S768x512.size inb_S768x512_S768x512_0_0) _ _ _ (S := oM.view.set) f ((View.setOn_subset_set _ _).trans (View.set_slice_subset _ _))) $$ [HS Hg Hx Ho Hk]
  isplitl [Ho]; · iexact Ho
  rw [write_oM]
  iintro Ho
  rw [wp_pure]
  imodintro
  iapply Hk
  isplitl [HS]; · iexact HS
  isplitl [Hg]; · iexact Hg
  isplitl [Hx]; · iexact Hx
  iexact Ho

/-! ## The last two receives, and all statistics read at once -/

/-- What a device has once every slot of statistics is filled: the buffer at the share kept of its own slot, and the rest of
each other slot with the finished round of its cell. -/
def Rest (p : Dev nD) : sProp 𝕄 :=
  iprop((bigSep Finset.univ fun q : Dev nD => pts (slotM p) c (lent q) (statsOf X)) ∗ atPos ER (recvCell c p) 1 ∅ 0)

theorem split_done (p : Dev nD) : RecvDn X c p ⊢ iprop(pts (slotM p) c kept (statsOf X) ∗ Rest X c p) := by
  unfold RecvDn Rest recvPay
  iintro ⟨H, Hat⟩
  icases (slot_shares p c (statsOf X)).1 $$ H with ⟨Hk, Hl⟩
  isplitl [Hk]; · iexact Hk
  isplitl [Hl]; · iexact Hl
  iexact Hat

theorem mem_all : c ∈ (Finset.univ : Finset (Dev nD)) := Finset.mem_univ c

/-- The buffer of statistics is the device's own slot and the others. -/
theorem stats_own (q : PosShare TreeShare) (f : StBuf F) :
    (pts stM c q f : sProp 𝕄) = iprop(pts (slotM c) c q f ∗ bigSep (Finset.univ.erase c) fun p : Dev nD => pts (slotM p) c q f) :=
  (st_slots c q f).trans (bigSep_erase (mem_all c))

theorem splits_done : bigSep (Finset.univ.erase c) (RecvDn X c)
    ⊢ iprop((bigSep (Finset.univ.erase c) fun p : Dev nD => pts (slotM p) c kept (statsOf X)) ∗ bigSep (Finset.univ.erase c) (Rest X c)) :=
  (bigSep_mono fun p _ => split_done X c p).trans
    (Entails.of_eq (bigSep_sep (Finset.univ.erase c) (fun p : Dev nD => pts (slotM p) c kept (statsOf X)) (Rest X c)))

theorem gather : iprop(bigSep (Finset.univ.erase c) (RecvDn X c) ∗ pts (slotM c) c kept (statsOf X))
    ⊢ iprop(pts stM c kept (statsOf X) ∗ bigSep (Finset.univ.erase c) (Rest X c)) := by
  rw [stats_own c kept (statsOf X)]
  iintro ⟨H, Ho⟩
  icases (splits_done X c) $$ H with ⟨H1, H2⟩
  isplitr [H2]
  · isplitl [Ho]; · iexact Ho
    iexact H1
  iexact H2

theorem recvs_done : RecvSt X c ((14 : Fin 15).val + 1)
    ⊢ iprop((∃ W, owes (c : Thread nD τ) (0 : CellTallies nD τ sig Unit) W) ∗ bigSep (Finset.univ.erase c) (RecvDn X c)) := by
  unfold RecvSt
  rw [show don c ((14 : Fin 15).val + 1) = Finset.univ.erase c from don_all c]
  iintro ⟨HO, -, H⟩
  isplitl [HO]; · iexact HO
  iexact H

theorem part25_run (w0 : BitVec 32) (w1 : BitVec 32) (w2 : BitVec 32) (w3 : BitVec 1) (Q : _ → sProp 𝕄) :
    iprop(recs X Y K c ∗ RecvSt X c 13 ∗ pts (slotM c) c kept (statsOf X)
        ∗ (((∃ W, owes (c : Thread nD τ) (0 : CellTallies nD τ sig Unit) W) ∗ pts stM c kept (statsOf X)
            ∗ bigSep (Finset.univ.erase c) (Rest X c)) -∗ Q ⟨k0_pay7 (statsOf X), k0_pay8 (statsOf X), k0_pay9⟩))
      ⊢ WP c (k0_part25 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c w0 w1 w2 w3) Q := by
  rw [k0_part25_eq_skeleton]; unfold k0_part25_skel WP; dsimp only
  iintro ⟨#HR, HS, Ho, Hk⟩
  rw [wp_bind]
  iapply (recv_step X Y K c 13 (recv_sem c 13)) $$ [HS Ho Hk]
  isplitr; · iexact HR
  isplitl [HS]; · iexact HS
  iintro HS
  rw [wp_bind]
  iapply (recv_step X Y K c 14 (recv_sem c 14)) $$ [HS Ho Hk]
  isplitr; · iexact HR
  isplitl [HS]; · iexact HS
  iintro HS
  icases (recvs_done X c) $$ HS with ⟨HO, HD⟩
  icases (gather X c) $$ [HD Ho] with ⟨Hs, HD⟩
  · isplitl [HD]; · iexact HD
    iexact Ho
  rw [wp_bind]
  iapply (load_step c stM _ _ (S := stM.view.set) kept (statsOf X) (full_sub _)) $$ [HO HD Hs Hk]
  isplitl [Hs]; · iexact Hs
  rw [read_stM]
  iintro Hs
  rw [wp_pure]
  imodintro
  iapply Hk
  isplitl [HO]; · iexact HO
  isplitl [Hs]; · iexact Hs
  iexact HD

/-! ## The result goes out -/

theorem writes_oA : (oM.access rowsA).setOn Finset.univ ⊆ oA.view.set := Finset.Subset.refl _
theorem writes_oB : (oM.access rowsB).setOn Finset.univ ⊆ oB.view.set := Finset.Subset.refl _

theorem part26_run (g b : GBuf F) (hY : Y c = outOf X (X c) g b) (Q : _ → sProp 𝕄) :
    iprop(recs X Y K c ∗ pts bM c fullShare b ∗ pts oM c fullShare (scaled (X c) g) ∗ (∃ f, pts youtA c fullShare f)
        ∗ dutyTok ER (copyCell c 2) 0 c
        ∗ ((pts bM c fullShare b ∗ pts oB c fullShare (scaled (X c) g) ∗ cred (tallyAt (copyCell c 2) () (Nc 2))) -∗
            Q ⟨k0_pay13 b, k0_pay15 (k0_pay7 (statsOf X)) (k0_pay8 (statsOf X)) k0_pay9,
              k0_pay16 (k0_pay7 (statsOf X)) (k0_pay8 (statsOf X)) k0_pay9 (loB (scaled (X c) g)), k0_pay17 (k0_pay5 g)⟩))
      ⊢ WP c (k0_part26 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 (k0_pay5 g) (k0_pay7 (statsOf X)) (k0_pay8 (statsOf X)) k0_pay9) Q := by
  rw [k0_part26_eq_skeleton]; unfold k0_part26_skel WP; dsimp only
  iintro ⟨#HR, Hb, Ho, Hy, Ht, Hk⟩
  icases (o_halves c fullShare (scaled (X c) g)).1 $$ Ho with ⟨HoA, HoB⟩
  rw [wp_bind]
  iapply (load_step c bM _ _ (S := bM.view.set) fullShare b (full_sub _)) $$ [Hb HoA HoB Hy Ht Hk]
  isplitl [Hb]; · iexact Hb
  rw [read_bM]
  iintro Hb
  rw [wp_bind]
  iapply (load_step c oM rowsA.toLoadRect _ (S := oA.view.set) fullShare (scaled (X c) g) reads_oA) $$ [Hb HoA HoB Hy Ht Hk]
  isplitl [HoA]; · iexact HoA
  iintro HoA
  rw [wp_bind]
  iapply (load_step c oM rowsA.toLoadRect _ (S := oA.view.set) fullShare (scaled (X c) g) reads_oA) $$ [Hb HoA HoB Hy Ht Hk]
  isplitl [HoA]; · iexact HoA
  iintro HoA
  rw [wp_bind]
  iapply (store_step c oM rowsA _ _ _ (S := oA.view.set) (scaled (X c) g) writes_oA) $$ [Hb HoA HoB Hy Ht Hk]
  isplitl [HoA]; · iexact HoA
  iintro HoA
  rw [wp_bind]
  iapply (copy_step X Y K c 2 copy_sem2 oA youtA ((oM.access rowsA).write (Elt F) (scaled (X c) g)
    (k0_pay14 (k0_pay5 g) (k0_pay7 (statsOf X)) (k0_pay8 (statsOf X)) k0_pay9 b (loA (scaled (X c) g))) Finset.univ) rfl _ _ _
    (fun fd => by
      rw [youtA_landed c (Y c) (scaled (X c) g) fd _ (fun j => by rw [hY]; exact outOf_A X (X c) g b j), copy_pay2]
      iintro ⟨H1, H2⟩
      isplitl [H1]; · iexact H1
      iexists _; iexact H2)) $$ [Hb HoA HoB Hy Ht Hk]
  isplitr; · iexact HR
  isplitl [HoA]; · iexact HoA
  isplitl [Hy]; · iexact Hy
  isplitl [Ht]; · iexact Ht
  iintro Hc
  rw [wp_bind]
  iapply (load_step c oM rowsB.toLoadRect _ (S := oB.view.set) fullShare (scaled (X c) g) reads_oB) $$ [Hb HoB Hc Hk]
  isplitl [HoB]; · iexact HoB
  rw [show oM.view.readAt (Elt F) rowsB.toLoadRect (scaled (X c) g) = loB (scaled (X c) g) from rfl]
  iintro HoB
  rw [wp_pure]
  imodintro
  iapply Hk
  isplitl [Hb]; · iexact Hb
  isplitl [HoB]; · iexact HoB
  iexact Hc

theorem owedRecv_none : owedRecv ∅ c = (0 : CellTallies nD τ sig Unit) := Finset.sum_empty

theorem part27_run (g b : GBuf F) (hY : Y c = outOf X (X c) g b) (Q : _ → sProp 𝕄) :
    iprop(recs X Y K c ∗ SentSt X c 0 ∗ pts oB c fullShare (scaled (X c) g) ∗ (∃ f, pts youtB c fullShare f)
        ∗ dutyTok ER (copyCell c 3) 0 c ∗ cred (tallyAt (copyCell c 2) () (Nc 2)) ∗ atPos ER (copyCell c 2) 0 ∅ 0 ∗ atPos ER (copyCell c 3) 0 ∅ 0
        ∗ ((SentSt X c 1 ∗ copyPay X Y c 2 ∗ copyPay X Y c 3 ∗ atPos ER (copyCell c 2) 1 ∅ 0 ∗ atPos ER (copyCell c 3) 1 ∅ 0) -∗ Q ⟨⟩))
      ⊢ WP c (k0_part27 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5 c (k0_pay13 b) (k0_pay15 (k0_pay7 (statsOf X)) (k0_pay8 (statsOf X)) k0_pay9)
          (k0_pay16 (k0_pay7 (statsOf X)) (k0_pay8 (statsOf X)) k0_pay9 (loB (scaled (X c) g))) (k0_pay17 (k0_pay5 g))) Q := by
  rw [k0_part27_eq_skeleton]; unfold k0_part27_skel WP SentSt; dsimp only
  rw [← owedRecv_none c]
  iintro ⟨#HR, ⟨HO, HS, HD⟩, Ho, Hy, Ht, Hc2, Ha2, Ha3, Hk⟩
  rw [wp_bind]
  iapply (load_step c oM rowsB.toLoadRect _ (S := oB.view.set) fullShare (scaled (X c) g) reads_oB) $$ [HO HS HD Ho Hy Ht Hc2 Ha2 Ha3 Hk]
  isplitl [Ho]; · iexact Ho
  iintro Ho
  rw [wp_bind]
  iapply (store_step c oM rowsB _ _ _ (S := oB.view.set) (scaled (X c) g) writes_oB) $$ [HO HS HD Ho Hy Ht Hc2 Ha2 Ha3 Hk]
  isplitl [Ho]; · iexact Ho
  iintro Ho
  rw [wp_bind]
  iapply (copy_step X Y K c 3 copy_sem3 oB youtB ((oM.access rowsB).write (Elt F) (scaled (X c) g)
    (k0_pay18 (k0_pay13 b) (k0_pay15 (k0_pay7 (statsOf X)) (k0_pay8 (statsOf X)) k0_pay9)
      (k0_pay16 (k0_pay7 (statsOf X)) (k0_pay8 (statsOf X)) k0_pay9 (loB (scaled (X c) g))) (k0_pay17 (k0_pay5 g))) Finset.univ) rfl _ _ _
    (fun fd => by
      rw [youtB_landed c (Y c) (scaled (X c) g) fd _ (fun j => by rw [hY]; exact outOf_B X (X c) g b j), copy_pay3]
      iintro ⟨H1, H2⟩
      isplitl [H1]; · iexact H1
      iexists _; iexact H2)) $$ [HO HS HD Ho Hy Ht Hc2 Ha2 Ha3 Hk]
  isplitr; · iexact HR
  isplitl [Ho]; · iexact Ho
  isplitl [Hy]; · iexact Hy
  isplitl [Ht]; · iexact Ht
  iintro Hc3
  rw [wp_bind]
  iapply (copied_step X Y K c 2 ∅ copy_sem2 oA youtA rfl) $$ [HO HS HD Hc3 Hc2 Ha2 Ha3 Hk]
  isplitr; · iexact HR
  isplitl [HO]; · iexact HO
  isplitl [Hc2]; · iexact Hc2
  isplitl [Ha2]; · iexact Ha2
  iintro ⟨HO, Ha2, Hp2⟩
  rw [wp_bind]
  iapply (copied_step X Y K c 3 ∅ copy_sem3 oB youtB rfl) $$ [HO HS HD Hc3 Hp2 Ha2 Ha3 Hk]
  isplitr; · iexact HR
  isplitl [HO]; · iexact HO
  isplitl [Hc3]; · iexact Hc3
  isplitl [Ha3]; · iexact Ha3
  iintro ⟨HO, Ha3, Hp3⟩
  rw [wp_bind]
  iapply (sent_step X Y K c 0 (send_sem c 0)) $$ [HO HS HD Hp3 Hp2 Ha2 Ha3 Hk]
  isplitr; · iexact HR
  unfold SentSt
  rw [← owedRecv_none c]
  isplitl [HO HS HD]
  · isplitl [HO]; · iexact HO
    isplitl [HS]; · iexact HS
    iexact HD
  iintro HS
  rw [wp_pure]
  imodintro
  iapply Hk
  isplitl [HS]; · iexact HS
  isplitl [Hp2]; · iexact Hp2
  isplitl [Hp3]; · iexact Hp3
  isplitl [Ha2]; · iexact Ha2
  iexact Ha3

/-! ## Between the phases -/

theorem join (s : Finset (Dev nD)) (Φ Ψ : Dev nD → sProp 𝕄) : iprop(bigSep s Φ ∗ bigSep s Ψ) ⊢ bigSep s fun p => iprop(Φ p ∗ Ψ p) :=
  Entails.of_eq (bigSep_sep s Φ Ψ).symm
theorem part (s : Finset (Dev nD)) (Φ Ψ : Dev nD → sProp 𝕄) : (bigSep s fun p => iprop(Φ p ∗ Ψ p)) ⊢ iprop(bigSep s Φ ∗ bigSep s Ψ) :=
  Entails.of_eq (bigSep_sep s Φ Ψ)
theorem take_own (Φ : Dev nD → sProp 𝕄) : bigSep Finset.univ Φ ⊢ iprop(Φ c ∗ bigSep (Finset.univ.erase c) Φ) :=
  Entails.of_eq (bigSep_erase (mem_all c))
theorem put_own (Φ : Dev nD → sProp 𝕄) : iprop(Φ c ∗ bigSep (Finset.univ.erase c) Φ) ⊢ bigSep Finset.univ Φ :=
  Entails.of_eq (bigSep_erase (mem_all c)).symm

theorem sig_pack (p : Dev nD) (f : StBuf F) :
    iprop(dutyTok ER (barCell p) 0 c ∗ pts (slotM p) c fullShare f) ⊢ (SigPk (F := F) c p : sProp 𝕄) := by
  unfold SigPk
  iintro ⟨H1, H2⟩
  isplitl [H1]; · iexact H1
  iexists _; iexact H2

/-- At first the device holds its buffer of statistics whole; it keeps its own slot and gives each other one away. -/
theorem slots_out : iprop((∃ f, pts stM c fullShare f) ∗ bigSep (Finset.univ.erase c) fun p => dutyTok ER (barCell p) 0 c)
    ⊢ (iprop((∃ f, pts (slotM c) c fullShare f) ∗ bigSep (Finset.univ.erase c) (SigPk (F := F) c)) : sProp 𝕄) := by
  iintro ⟨⟨%f, Hs⟩, Ht⟩
  icases (Entails.of_eq (stats_own c fullShare f)) $$ Hs with ⟨Ho, Hs⟩
  isplitl [Ho]; · iexists _; iexact Ho
  iapply ((join (Finset.univ.erase c) (fun p : Dev nD => (dutyTok ER (barCell p) 0 c : sProp 𝕄))
    (fun p : Dev nD => pts (slotM p) c fullShare f)).trans (bigSep_mono fun p _ => sig_pack c p f))
  isplitl [Ht]; · iexact Ht
  iexact Hs

/-- The tokens of what the device sends. -/
def SendTok (p : Dev nD) : sProp 𝕄 := iprop(dutyTok ER (sendCell c p) 0 c ∗ dutyTok ER (recvCell p c) 0 c)

theorem send_pack (p : Dev nD) :
    iprop(SendTok (F := F) c p ∗ pts (slotM c) c (lent p) (statsOf X) ∗ barPay (F := F) c p) ⊢ SendPk X c p := by
  unfold SendPk SendTok
  iintro ⟨⟨H1, H2⟩, H3, H4⟩
  isplitl [H1]; · iexact H1
  isplitl [H2]; · iexact H2
  isplitl [H3]; · iexact H3
  iexact H4

/-- The device's own slot, filled, is lent to its sends. -/
theorem slots_lend : iprop(pts (slotM c) c fullShare (statsOf X) ∗ bigSep (Finset.univ.erase c) (SendTok (F := F) c)
      ∗ bigSep (Finset.univ.erase c) (fun p => barPay (F := F) c p))
    ⊢ (iprop(pts (slotM c) c kept (statsOf X) ∗ pts (slotM c) c (lent c) (statsOf X) ∗ bigSep (Finset.univ.erase c) (SendPk X c)) : sProp 𝕄) := by
  iintro ⟨Hs, Ht, Hb⟩
  icases (slot_shares c c (statsOf X)).1 $$ Hs with ⟨Hk, Hl⟩
  icases (take_own c (fun p : Dev nD => pts (slotM c) c (lent p) (statsOf X))) $$ Hl with ⟨Hc, Hl⟩
  isplitl [Hk]; · iexact Hk
  isplitl [Hc]; · iexact Hc
  iapply ((join (Finset.univ.erase c) (SendTok (F := F) c)
    (fun p => iprop(pts (slotM c) c (lent p) (statsOf X) ∗ barPay (F := F) c p))).trans (bigSep_mono fun p _ => send_pack X c p))
  isplitl [Ht]; · iexact Ht
  iapply (join (Finset.univ.erase c) (fun p : Dev nD => pts (slotM c) c (lent p) (statsOf X)) (fun p => barPay (F := F) c p))
  isplitl [Hl]; · iexact Hl
  iexact Hb

theorem sends_begin : iprop(Ow (F := F) c (Finset.univ.erase c) ∗ bigSep (Finset.univ.erase c) (SendPk X c)) ⊢ SendSt X c 0 := by
  unfold SendSt
  rw [rem_zero, don_zero, bigSep_empty]
  iintro ⟨HO, H⟩
  isplitl [HO]; · iexact HO
  isplitl [H]; · iexact H
  iempintro

theorem sends_end : SendSt X c 15 ⊢ iprop((∃ W, owes (c : Thread nD τ) (0 : CellTallies nD τ sig Unit) W)
    ∗ bigSep (Finset.univ.erase c) (fun p => cred (tallyAt (sendCell c p) () N))) := by
  unfold SendSt
  rw [rem_all, don_all, owedRecv_none]
  iintro ⟨HO, -, H⟩
  isplitl [HO]; · iexact HO
  iexact H

theorem recvs_begin : iprop((∃ W, owes (c : Thread nD τ) (0 : CellTallies nD τ sig Unit) W) ∗ bigSep (Finset.univ.erase c) (RecvPk (F := F) c))
    ⊢ RecvSt X c 0 := by
  unfold RecvSt
  rw [rem_zero, don_zero, bigSep_empty]
  iintro ⟨HO, H⟩
  isplitl [HO]; · iexact HO
  isplitl [H]; · iexact H
  iempintro

theorem sents_begin : iprop((∃ W, owes (c : Thread nD τ) (0 : CellTallies nD τ sig Unit) W)
      ∗ bigSep (Finset.univ.erase c) (fun p => cred (tallyAt (sendCell c p) () N))
      ∗ bigSep (Finset.univ.erase c) (fun p => atPos ER (sendCell c p) 0 ∅ 0))
    ⊢ SentSt X c 0 := by
  unfold SentSt
  rw [rem_zero, don_zero, bigSep_empty]
  iintro ⟨HO, H1, H2⟩
  isplitl [HO]; · iexact HO
  isplitl [H1 H2]
  · iapply (join (Finset.univ.erase c) (fun p => (cred (tallyAt (sendCell c p) () N) : sProp 𝕄))
      (fun p => (atPos ER (sendCell c p) 0 ∅ 0 : sProp 𝕄)))
    isplitl [H1]; · iexact H1
    iexact H2
  iempintro

theorem sents_end : SentSt X c 15 ⊢ iprop((∃ W, owes (c : Thread nD τ) (0 : CellTallies nD τ sig Unit) W)
    ∗ (bigSep (Finset.univ.erase c) fun p => sendPay X c p) ∗ bigSep (Finset.univ.erase c) fun p => atPos ER (sendCell c p) 1 ∅ 0) := by
  unfold SentSt
  rw [don_all]
  iintro ⟨HO, -, H⟩
  isplitl [HO]; · iexact HO
  iapply (part (Finset.univ.erase c) (fun p => sendPay X c p) (fun p => (atPos ER (sendCell c p) 1 ∅ 0 : sProp 𝕄)))
  iexact H

theorem rest_part : bigSep (Finset.univ.erase c) (Rest X c)
    ⊢ iprop((bigSep (Finset.univ.erase c) fun p : Dev nD => bigSep Finset.univ fun q : Dev nD => pts (slotM p) c (lent q) (statsOf X))
      ∗ bigSep (Finset.univ.erase c) fun p : Dev nD => (atPos ER (recvCell c p) 1 ∅ 0 : sProp 𝕄)) :=
  part (Finset.univ.erase c) (fun p : Dev nD => bigSep Finset.univ fun q : Dev nD => pts (slotM p) c (lent q) (statsOf X))
    (fun p : Dev nD => (atPos ER (recvCell c p) 1 ∅ 0 : sProp 𝕄))

/-- At the end every share lent is back, and the buffer of statistics is whole again. -/
theorem slots_back : iprop(pts stM c kept (statsOf X) ∗ bigSep (Finset.univ.erase c) (Rest X c) ∗ pts (slotM c) c (lent c) (statsOf X)
      ∗ bigSep (Finset.univ.erase c) (fun p => sendPay X c p))
    ⊢ iprop(pts stM c fullShare (statsOf X) ∗ bigSep (Finset.univ.erase c) fun p => (atPos ER (recvCell c p) 1 ∅ 0 : sProp 𝕄)) := by
  rw [stats_own c kept (statsOf X), stats_own c fullShare (statsOf X)]
  iintro ⟨⟨Hk, Hks⟩, HR, Hl, Hp⟩
  icases (rest_part X c) $$ HR with ⟨HR, Hat⟩
  isplitr [Hat]
  · isplitl [Hk Hl Hp]
    · iapply (slot_shares c c (statsOf X)).2
      isplitl [Hk]; · iexact Hk
      iapply (put_own c (fun q : Dev nD => pts (slotM c) c (lent q) (statsOf X)))
      isplitl [Hl]; · iexact Hl
      iexact Hp
    · iapply ((join (Finset.univ.erase c) (fun p : Dev nD => pts (slotM p) c kept (statsOf X))
        (fun p : Dev nD => bigSep Finset.univ fun q : Dev nD => pts (slotM p) c (lent q) (statsOf X))).trans
        (bigSep_mono fun p _ => (slot_shares p c (statsOf X)).2))
      isplitl [Hks]; · iexact Hks
      iexact HR
  iexact Hat
end Cert.KernelIdeal.Talk

end
-- ==== Proof.WholeIdeal.lean ====
/-
  The program's parts in a row: one device's whole run.
-/
module

public import proofs.«01_k».proof.Proof.BodyIdeal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X Y : Dev nD → XBuf F) (K : GSem nD τ sig → ℕ) (c : Dev nD)

/-! ## The whole body -/

theorem four (Φ : Fin 4 → sProp 𝕄) : bigSep Finset.univ Φ ⊣⊢ iprop(Φ 0 ∗ Φ 1 ∗ Φ 2 ∗ Φ 3) := by
  have h : bigSep Finset.univ Φ = iprop(Φ 0 ∗ Φ 1 ∗ Φ 2 ∗ Φ 3) := by
    rw [show (Finset.univ : Finset (Fin 4)) = {0, 1, 2, 3} from by decide, bigSep_insert (by decide), bigSep_insert (by decide),
      bigSep_insert (by decide), bigSep_singleton]
    rfl
  exact ⟨Entails.of_eq h, Entails.of_eq h.symm⟩

/-- The tokens a device starts with, -/
def Toks : sProp 𝕄 :=
  iprop((bigSep (Finset.univ.erase c) fun p => dutyTok ER (barCell p) 0 c) ∗ bigSep (Finset.univ.erase c) (SendTok (F := F) c)
    ∗ bigSep Finset.univ fun i : Fin 4 => dutyTok ER (copyCell c i) 0 c)
/-- the credit it may wait for, -/
def Creds : sProp 𝕄 :=
  iprop(cred (tallyAt (barCell c) () 15) ∗ bigSep (Finset.univ.erase c) fun p => cred (tallyAt (recvCell c p) () N))
/-- and the rounds its cells stand at. -/
def Pos (r : ℕ) : sProp 𝕄 :=
  iprop(atPos ER (barCell c) r ∅ 0 ∗ (bigSep (Finset.univ.erase c) fun p => atPos ER (sendCell c p) r ∅ 0)
    ∗ (bigSep (Finset.univ.erase c) fun p => atPos ER (recvCell c p) r ∅ 0) ∗ bigSep Finset.univ fun i : Fin 4 => atPos ER (copyCell c i) r ∅ 0)
/-- Its buffers: block, weights and offsets, and the scratch buffers with anything in them. -/
def Bufs (g b : GBuf F) : sProp 𝕄 :=
  iprop(pts xinM c fullShare (X c) ∗ pts gM c fullShare g ∗ pts bM c fullShare b ∗ (∃ f, pts xM c fullShare f) ∗ (∃ f, pts oM c fullShare f)
    ∗ ∃ f, pts stM c fullShare f)

theorem signals_begin : iprop((∃ W, owes (c : Thread nD τ) (O₀ c) W) ∗ bigSep (Finset.univ.erase c) (SigPk (F := F) c)) ⊢ (SigSt c 0 : sProp 𝕄) := by
  unfold SigSt O₀
  rw [rem_zero]

theorem recv_packs : iprop((bigSep (Finset.univ.erase c) fun p => cred (tallyAt (recvCell c p) () N))
      ∗ bigSep (Finset.univ.erase c) fun p => atPos ER (recvCell c p) 0 ∅ 0)
    ⊢ (bigSep (Finset.univ.erase c) (RecvPk (F := F) c) : sProp 𝕄) :=
  join (Finset.univ.erase c) (fun p => (cred (tallyAt (recvCell c p) () N) : sProp 𝕄)) (fun p => (atPos ER (recvCell c p) 0 ∅ 0 : sProp 𝕄))

/-- What is left when all but the last wait is done. -/
def Tail (g b : GBuf F) : sProp 𝕄 :=
  iprop(copyPay X Y c 2 ∗ copyPay X Y c 3 ∗ (bigSep Finset.univ fun i : Fin 4 => atPos ER (copyCell c i) 1 ∅ 0) ∗ atPos ER (barCell c) 1 ∅ 0
    ∗ pts xinM c fullShare (X c) ∗ pts gM c fullShare g ∗ pts bM c fullShare b ∗ pts xM c fullShare (X c)
    ∗ pts stM c kept (statsOf X) ∗ bigSep (Finset.univ.erase c) (Rest X c) ∗ pts (slotM c) c (lent c) (statsOf X))

set_option maxHeartbeats 8000000 in
theorem part30_run (g b : GBuf F) (hY : Y c = outOf X (X c) g b) (Q : _ → sProp 𝕄) :
    iprop(recs X Y K c ∗ (∃ W, owes (c : Thread nD τ) (O₀ c) W) ∗ Toks (F := F) c ∗ Creds (F := F) c ∗ Pos (F := F) c 0 ∗ Bufs X c g b
        ∗ (∃ f, pts youtM c fullShare f) ∗ ((SentSt X c 14 ∗ Tail X Y c g b) -∗ Q c))
      ⊢ WP c (k0_part30 (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5) Q := by
  rw [k0_part30_eq_skeleton]; unfold k0_part30_skel WP Toks Creds Pos Bufs; dsimp only
  iintro ⟨#HR, HO, ⟨Htb, Hts, Htc⟩, ⟨Hcb, Hcr⟩, ⟨Hab, Has, Har, Hac⟩, ⟨Hxin, Hg, Hb, ⟨%fx, Hx⟩, Ho, Hst⟩, ⟨%fy, Hy⟩, Hk⟩
  icases (four (fun i => dutyTok ER (copyCell c i) 0 c)).1 $$ Htc with ⟨Ht0, Ht1, Ht2, Ht3⟩
  icases (four (fun i => atPos ER (copyCell c i) 0 ∅ 0)).1 $$ Hac with ⟨Ha0, Ha1, Ha2, Ha3⟩
  icases (xin_halves c fullShare (X c)).1 $$ Hxin with ⟨HiA, HiB⟩
  icases (x_halves c fullShare fx).1 $$ Hx with ⟨HxA, HxB⟩
  icases (yout_halves c fullShare fy).1 $$ Hy with ⟨HyA, HyB⟩
  icases (slots_out c) $$ [Hst Htb] with ⟨⟨%fs, Hs⟩, Hsig⟩
  · isplitl [Hst]; · iexact Hst
    iexact Htb
  ihave HS := (signals_begin c) $$ [HO Hsig]
  · isplitl [HO]; · iexact HO
    iexact Hsig
  rw [wp_bind]
  iapply (part1_run X Y K c) $$ [HS Hts Ht0 Ht1 Ht2 Ht3 Hcb Hcr Hab Has Har Ha0 Ha1 Ha2 Ha3 HiA HiB HxA HxB HyA HyB Hg Hb Ho Hs Hk]
  isplitr; · iexact HR
  isplitl [HS]; · iexact HS
  iintro %w %w1 %w2 %w3 HS
  dsimp only
  rw [wp_bind]
  iapply (part2_run X Y K c) $$ [HS Hts Ht0 Ht1 Ht2 Ht3 Hcb Hcr Hab Has Har Ha0 Ha1 Ha2 Ha3 HiA HiB HxA HxB HyA HyB Hg Hb Ho Hs Hk]
  isplitr; · iexact HR
  isplitl [HS]; · iexact HS
  iintro %r2 HS
  rw [wp_bind]
  iapply (part3_run X Y K c) $$ [HS Hts Ht0 Ht1 Ht2 Ht3 Hcb Hcr Hab Has Har Ha0 Ha1 Ha2 Ha3 HiA HiB HxA HxB HyA HyB Hg Hb Ho Hs Hk]
  isplitr; · iexact HR
  isplitl [HS]; · iexact HS
  iintro %r3 HS
  rw [wp_bind]
  iapply (part4_run X Y K c) $$ [HS Hts Ht0 Ht1 Ht2 Ht3 Hcb Hcr Hab Has Har Ha0 Ha1 Ha2 Ha3 HiA HiB HxA HxB HyA HyB Hg Hb Ho Hs Hk]
  isplitr; · iexact HR
  isplitl [HS]; · iexact HS
  iintro %r4 HS
  rw [wp_bind]
  iapply (part5_run X Y K c) $$ [HS Hts Ht0 Ht1 Ht2 Ht3 Hcb Hcr Hab Has Har Ha0 Ha1 Ha2 Ha3 HiA HiB HxA HxB HyA HyB Hg Hb Ho Hs Hk]
  isplitr; · iexact HR
  isplitl [HS]; · iexact HS
  iintro %r5 HS
  rw [wp_bind]
  iapply (part6_run X Y K c) $$ [HS Hts Ht0 Ht1 Ht2 Ht3 Hcb Hcr Hab Has Har Ha0 Ha1 Ha2 Ha3 HiA HiB HxA HxB HyA HyB Hg Hb Ho Hs Hk]
  isplitr; · iexact HR
  isplitl [HS]; · iexact HS
  iintro %r6 HS
  rw [wp_bind]
  iapply (part7_run X Y K c _ _ _ _ fs) $$ [HS Hts Ht0 Ht1 Ht2 Ht3 Hcb Hcr Hab Has Har Ha0 Ha1 Ha2 Ha3 HiA HiB HxA HxB HyA HyB Hg Hb Ho Hs Hk]
  isplitr; · iexact HR
  isplitl [HS]; · iexact HS
  isplitl [HiA]; · iexact HiA
  isplitl [HxA]; · iexists _; iexact HxA
  isplitl [HiB]; · iexact HiB
  isplitl [HxB]; · iexists _; iexact HxB
  isplitl [Ht0]; · iexact Ht0
  isplitl [Ht1]; · iexact Ht1
  isplitl [Ha0]; · iexact Ha0
  isplitl [Hs]; · iexact Hs
  iintro ⟨HO, HxA, HiA, Ha0, Hc1, Hs⟩
  rw [wp_bind]
  iapply (part8_run X Y K c _ fs) $$ [Hts Ht2 Ht3 Hcb Hcr Hab Has Har Ha0 Ha1 Ha2 Ha3 HiA HxA HyA HyB Hg Hb Ho Hs Hk HO Hc1]
  isplitr; · iexact HR
  isplitl [HO]; · iexact HO
  isplitl [Hc1]; · iexact Hc1
  isplitl [Ha1]; · iexact Ha1
  isplitl [Hs]; · iexact Hs
  isplitl [Hcb]; · iexact Hcb
  isplitl [Hab]; · iexact Hab
  iintro ⟨HO, HxB, HiB, Ha1, Hs, Hab, Hpay⟩
  ihave Hxin := (xin_halves c fullShare (X c)).2 $$ [HiA HiB]
  · isplitl [HiA]; · iexact HiA
    iexact HiB
  ihave Hx := (x_halves c fullShare (X c)).2 $$ [HxA HxB]
  · isplitl [HxA]; · iexact HxA
    iexact HxB
  icases (slots_lend X c) $$ [Hs Hts Hpay] with ⟨Hkept, Hlent, Hpk⟩
  · isplitl [Hs]; · iexact Hs
    isplitl [Hts]; · iexact Hts
    iexact Hpay
  ihave HS := (sends_begin X c) $$ [HO Hpk]
  · isplitl [HO]; · iexact HO
    iexact Hpk
  rw [wp_bind]
  iapply (part9_run X Y K c) $$ [Ht2 Ht3 Hcr Hab Has Har Ha0 Ha1 Ha2 Ha3 HyA HyB Hg Hb Ho Hk Hxin Hx Hkept Hlent HS]
  isplitr; · iexact HR
  isplitl [HS]; · iexact HS
  iintro %r9 HS
  rw [wp_bind]
  iapply (part10_run X Y K c) $$ [Ht2 Ht3 Hcr Hab Has Har Ha0 Ha1 Ha2 Ha3 HyA HyB Hg Hb Ho Hk Hxin Hx Hkept Hlent HS]
  isplitr; · iexact HR
  isplitl [HS]; · iexact HS
  iintro %r10 HS
  rw [wp_bind]
  iapply (part11_run X Y K c) $$ [Ht2 Ht3 Hcr Hab Has Har Ha0 Ha1 Ha2 Ha3 HyA HyB Hg Hb Ho Hk Hxin Hx Hkept Hlent HS]
  isplitr; · iexact HR
  isplitl [HS]; · iexact HS
  iintro %r11 HS
  rw [wp_bind]
  iapply (part12_run X Y K c) $$ [Ht2 Ht3 Hcr Hab Has Har Ha0 Ha1 Ha2 Ha3 HyA HyB Hg Hb Ho Hk Hxin Hx Hkept Hlent HS]
  isplitr; · iexact HR
  isplitl [HS]; · iexact HS
  iintro %r12 HS
  rw [wp_bind]
  iapply (part13_run X Y K c) $$ [Ht2 Ht3 Hcr Hab Has Har Ha0 Ha1 Ha2 Ha3 HyA HyB Hg Hb Ho Hk Hxin Hx Hkept Hlent HS]
  isplitr; · iexact HR
  isplitl [HS]; · iexact HS
  iintro %r13 HS
  rw [wp_bind]
  iapply (part14_run X Y K c) $$ [Ht2 Ht3 Hcr Hab Has Har Ha0 Ha1 Ha2 Ha3 HyA HyB Hg Hb Ho Hk Hxin Hx Hkept Hlent HS]
  isplitr; · iexact HR
  isplitl [HS]; · iexact HS
  iintro %r14 HS
  rw [wp_bind]
  iapply (part15_run X Y K c) $$ [Ht2 Ht3 Hcr Hab Has Har Ha0 Ha1 Ha2 Ha3 HyA HyB Hg Hb Ho Hk Hxin Hx Hkept Hlent HS]
  isplitr; · iexact HR
  isplitl [HS]; · iexact HS
  iintro %r15 HS
  rw [wp_bind]
  iapply (part16_run X Y K c) $$ [Ht2 Ht3 Hcr Hab Has Har Ha0 Ha1 Ha2 Ha3 HyA HyB Hg Hb Ho Hk Hxin Hx Hkept Hlent HS]
  isplitr; · iexact HR
  isplitl [HS]; · iexact HS
  iintro %r16 HS
  rw [wp_bind]
  iapply (part17_run X Y K c _ _ _ _ g) $$ [Ht2 Ht3 Hcr Hab Has Har Ha0 Ha1 Ha2 Ha3 HyA HyB Hg Hb Ho Hk Hxin Hx Hkept Hlent HS]
  isplitr; · iexact HR
  isplitl [HS]; · iexact HS
  isplitl [Hg]; · iexact Hg
  isplitl [Hx]; · iexact Hx
  isplitl [Ho]; · iexact Ho
  iintro ⟨HS, Hg, Hx, Ho⟩
  icases (show SendSt X c 15 ⊢ _ from sends_end X c) $$ HS with ⟨HO, Hcs⟩
  ihave Hpk := (recv_packs c) $$ [Hcr Har]
  · isplitl [Hcr]; · iexact Hcr
    iexact Har
  ihave HS := (recvs_begin X c) $$ [HO Hpk]
  · isplitl [HO]; · iexact HO
    iexact Hpk
  rw [wp_bind]
  iapply (part18_run X Y K c) $$ [Ht2 Ht3 Hab Has Ha0 Ha1 Ha2 Ha3 HyA HyB Hg Hb Ho Hk Hxin Hx Hkept Hlent HS Hcs]
  isplitr; · iexact HR
  isplitl [HS]; · iexact HS
  iintro %r18 HS
  rw [wp_bind]
  iapply (part19_run X Y K c) $$ [Ht2 Ht3 Hab Has Ha0 Ha1 Ha2 Ha3 HyA HyB Hg Hb Ho Hk Hxin Hx Hkept Hlent HS Hcs]
  isplitr; · iexact HR
  isplitl [HS]; · iexact HS
  iintro %r19 HS
  rw [wp_bind]
  iapply (part20_run X Y K c) $$ [Ht2 Ht3 Hab Has Ha0 Ha1 Ha2 Ha3 HyA HyB Hg Hb Ho Hk Hxin Hx Hkept Hlent HS Hcs]
  isplitr; · iexact HR
  isplitl [HS]; · iexact HS
  iintro %r20 HS
  rw [wp_bind]
  iapply (part21_run X Y K c) $$ [Ht2 Ht3 Hab Has Ha0 Ha1 Ha2 Ha3 HyA HyB Hg Hb Ho Hk Hxin Hx Hkept Hlent HS Hcs]
  isplitr; · iexact HR
  isplitl [HS]; · iexact HS
  iintro %r21 HS
  rw [wp_bind]
  iapply (part22_run X Y K c) $$ [Ht2 Ht3 Hab Has Ha0 Ha1 Ha2 Ha3 HyA HyB Hg Hb Ho Hk Hxin Hx Hkept Hlent HS Hcs]
  isplitr; · iexact HR
  isplitl [HS]; · iexact HS
  iintro %r22 HS
  rw [wp_bind]
  iapply (part23_run X Y K c) $$ [Ht2 Ht3 Hab Has Ha0 Ha1 Ha2 Ha3 HyA HyB Hg Hb Ho Hk Hxin Hx Hkept Hlent HS Hcs]
  isplitr; · iexact HR
  isplitl [HS]; · iexact HS
  iintro %r23 HS
  rw [wp_bind]
  iapply (part24_run X Y K c) $$ [Ht2 Ht3 Hab Has Ha0 Ha1 Ha2 Ha3 HyA HyB Hg Hb Ho Hk Hxin Hx Hkept Hlent HS Hcs]
  isplitr; · iexact HR
  isplitl [HS]; · iexact HS
  iintro %r24 HS
  rw [wp_bind]
  iapply (part25_run X Y K c) $$ [Ht2 Ht3 Hab Has Ha0 Ha1 Ha2 Ha3 HyA HyB Hg Hb Ho Hk Hxin Hx Hkept Hlent HS Hcs]
  isplitr; · iexact HR
  isplitl [HS]; · iexact HS
  isplitl [Hkept]; · iexact Hkept
  iintro ⟨HO, Hst, Hrest⟩
  dsimp only
  rw [wp_bind]
  iapply (part26_run X Y K c g b hY) $$ [Ht2 Ht3 Hab Has Ha0 Ha1 Ha2 Ha3 HyA HyB Hg Hb Ho Hk Hxin Hx Hlent Hcs HO Hst Hrest]
  isplitr; · iexact HR
  isplitl [Hb]; · iexact Hb
  isplitl [Ho]; · iexact Ho
  isplitl [HyA]; · iexists _; iexact HyA
  isplitl [Ht2]; · iexact Ht2
  iintro ⟨Hb, HoB, Hc2⟩
  dsimp only
  ihave HS := (sents_begin X c) $$ [HO Hcs Has]
  · isplitl [HO]; · iexact HO
    isplitl [Hcs]; · iexact Hcs
    iexact Has
  rw [wp_bind]
  iapply (part27_run X Y K c g b hY) $$ [Ht3 Hab Ha0 Ha1 Ha2 Ha3 HyB Hg Hb Hk Hxin Hx Hlent Hst Hrest HoB Hc2 HS]
  isplitr; · iexact HR
  isplitl [HS]; · iexact HS
  isplitl [HoB]; · iexact HoB
  isplitl [HyB]; · iexists _; iexact HyB
  isplitl [Ht3]; · iexact Ht3
  isplitl [Hc2]; · iexact Hc2
  isplitl [Ha2]; · iexact Ha2
  isplitl [Ha3]; · iexact Ha3
  iintro ⟨HS, Hp2, Hp3, Ha2, Ha3⟩
  rw [wp_bind]
  iapply (part28_run X Y K c) $$ [Hab Ha0 Ha1 Ha2 Ha3 Hg Hb Hk Hxin Hx Hlent Hst Hrest HS Hp2 Hp3]
  isplitr; · iexact HR
  isplitl [HS]; · iexact HS
  iintro %r28 HS
  rw [wp_bind]
  iapply (part29_run X Y K c) $$ [Hab Ha0 Ha1 Ha2 Ha3 Hg Hb Hk Hxin Hx Hlent Hst Hrest HS Hp2 Hp3]
  isplitr; · iexact HR
  isplitl [HS]; · iexact HS
  iintro %r29 HS
  rw [wp_bind]
  iapply (sent_step X Y K c 11 (send_sem c 11)) $$ [Hab Ha0 Ha1 Ha2 Ha3 Hg Hb Hk Hxin Hx Hlent Hst Hrest HS Hp2 Hp3]
  isplitr; · iexact HR
  isplitl [HS]; · iexact HS
  iintro HS
  rw [wp_bind]
  iapply (sent_step X Y K c 12 (send_sem c 12)) $$ [Hab Ha0 Ha1 Ha2 Ha3 Hg Hb Hk Hxin Hx Hlent Hst Hrest HS Hp2 Hp3]
  isplitr; · iexact HR
  isplitl [HS]; · iexact HS
  iintro HS
  rw [wp_bind]
  iapply (sent_step X Y K c 13 (send_sem c 13)) $$ [Hab Ha0 Ha1 Ha2 Ha3 Hg Hb Hk Hxin Hx Hlent Hst Hrest HS Hp2 Hp3]
  isplitr; · iexact HR
  isplitl [HS]; · iexact HS
  iintro HS
  rw [wp_pure]
  imodintro
  iapply Hk
  isplitl [HS]; · iexact HS
  unfold Tail
  isplitl [Hp2]; · iexact Hp2
  isplitl [Hp3]; · iexact Hp3
  isplitl [Ha0 Ha1 Ha2 Ha3]
  · iapply (four (fun i => atPos ER (copyCell c i) 1 ∅ 0)).2
    isplitl [Ha0]; · iexact Ha0
    isplitl [Ha1]; · iexact Ha1
    isplitl [Ha2]; · iexact Ha2
    iexact Ha3
  isplitl [Hab]; · iexact Hab
  isplitl [Hxin]; · iexact Hxin
  isplitl [Hg]; · iexact Hg
  isplitl [Hb]; · iexact Hb
  isplitl [Hx]; · iexact Hx
  isplitl [Hst]; · iexact Hst
  isplitl [Hrest]; · iexact Hrest
  iexact Hlent

/-- A device's whole run of the body: the exchange done, the result in its buffer, every cell a round further, nothing owed. -/
theorem body_run (g b : GBuf F) (hY : Y c = outOf X (X c) g b) (Q : _ → sProp 𝕄) :
    iprop(recs X Y K c ∗ (∃ W, owes (c : Thread nD τ) (O₀ c) W) ∗ Toks (F := F) c ∗ Creds (F := F) c ∗ Pos (F := F) c 0 ∗ Bufs X c g b
        ∗ (∃ f, pts youtM c fullShare f)
        ∗ (((∃ W, owes (c : Thread nD τ) (0 : CellTallies nD τ sig Unit) W) ∗ Pos (F := F) c 1 ∗ Bufs X c g b ∗ pts youtM c fullShare (Y c)) -∗ |={Set.univ}=> Q ⟨⟩))
      ⊢ WP c (cc0_body (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5) Q := by
  rw [cc0_body_eq_skeleton]; unfold cc0_body_skel WP; dsimp only
  iintro ⟨#HR, HO, Ht, Hc, Ha, Hb, Hy, Hk⟩
  rw [wp_bind]
  iapply (part30_run X Y K c g b hY) $$ [HO Ht Hc Ha Hb Hy Hk]
  isplitr; · iexact HR
  isplitl [HO]; · iexact HO
  isplitl [Ht]; · iexact Ht
  isplitl [Hc]; · iexact Hc
  isplitl [Ha]; · iexact Ha
  isplitl [Hb]; · iexact Hb
  isplitl [Hy]; · iexact Hy
  iintro ⟨HS, HT⟩
  rw [wp_bind]
  iapply (sent_step X Y K c 14 (send_sem c 14)) $$ [HS HT Hk]
  isplitr; · iexact HR
  isplitl [HS]; · iexact HS
  iintro HS
  rw [wp_pure]
  icases (show SentSt X c ((14 : Fin 15).val + 1) ⊢ _ from sents_end X c) $$ HS with ⟨HO, Hp, Has⟩
  unfold Tail
  icases HT with ⟨Hp2, Hp3, Hac, Hab, Hxin, Hg, Hb, Hx, Hst, Hrest, Hlent⟩
  icases (Entails.of_eq (copy_pay2 X Y c)) $$ Hp2 with ⟨HyA, ⟨%f, HoA⟩⟩
  icases (Entails.of_eq (copy_pay3 X Y c)) $$ Hp3 with ⟨HyB, ⟨%f', HoB⟩⟩
  icases (slots_back X c) $$ [Hst Hrest Hlent Hp] with ⟨Hst, Har⟩
  · isplitl [Hst]; · iexact Hst
    isplitl [Hrest]; · iexact Hrest
    isplitl [Hlent]; · iexact Hlent
    iexact Hp
  iapply Hk
  isplitl [HO]; · iexact HO
  isplitl [Hab Has Har Hac]
  · unfold Pos
    isplitl [Hab]; · iexact Hab
    isplitl [Has]; · iexact Has
    isplitl [Har]; · iexact Har
    iexact Hac
  isplitr [HyA HyB]
  · unfold Bufs
    isplitl [Hxin]; · iexact Hxin
    isplitl [Hg]; · iexact Hg
    isplitl [Hb]; · iexact Hb
    isplitl [Hx]; · iexists _; iexact Hx
    isplitl [HoA HoB]
    · iapply (o_join c f f')
      isplitl [HoA]; · iexact HoA
      iexact HoB
    iexists _; iexact Hst
  iapply (yout_halves c fullShare (Y c)).2
  isplitl [HyA]; · iexact HyA
  iexact HyB

end Cert.KernelIdeal.Talk

end
-- ==== Proof.CellsIdeal.lean ====
/-
  The cells of the protocol around the run: how they are allocated at the launch, opened when the region begins and closed
  when it ends, and the credit the launch gives.
-/
module

public import proofs.«01_k».proof.Proof.WholeIdeal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X Y : Dev nD → XBuf F) (K : GSem nD τ sig → ℕ) (c : Dev nD)

/-! ## The kernel's own semaphores -/

/-- A device's own semaphores: one per receiver, one per sender, four for the copies. -/
abbrev Own : Type := Dev nD ⊕ (Dev nD ⊕ Fin 4)

def osem : Own → SemLoc sig
  | .inl p => .dma (sendS p)
  | .inr (.inl s) => .dma (recvS s)
  | .inr (.inr i) => .dma (copyS i)

abbrev ownCell (k : Own) : GSem nD τ sig := ((c : Thread nD τ), osem k)

theorem osem_inj : Function.Injective osem := by decide +kernel
theorem osem_ne_bar : ∀ k : Own, osem k ≠ .reg barS := by decide +kernel

omit [FloatOps F] in
theorem over_own (Φ : Own → sProp 𝕄) : (bigSep Finset.univ Φ : sProp 𝕄)
    = iprop((bigSep Finset.univ fun p => Φ (.inl p)) ∗ (bigSep Finset.univ fun s => Φ (.inr (.inl s))) ∗ bigSep Finset.univ fun i => Φ (.inr (.inr i))) := by
  rw [bigSep_univ_sum, bigSep_univ_sum]; rfl

omit [FloatOps F] in
theorem at_self (Φ : Dev nD → sProp 𝕄) : (bigSep Finset.univ Φ : sProp 𝕄) = iprop(Φ c ∗ bigSep (Finset.univ.erase c) Φ) :=
  bigSep_univ_at Φ c

omit [FloatOps F] in
theorem pairs {T : Type} (S : Finset T) (Φ Ψ : T → sProp 𝕄) : (bigSep S fun t => iprop(Φ t ∗ Ψ t) : sProp 𝕄) = iprop(bigSep S Φ ∗ bigSep S Ψ) :=
  bigSep_sep S Φ Ψ

/-- A device sends itself nothing: these two cells stay where they began. -/
def SelfPos : sProp 𝕄 := iprop(atPos ER (sendCell c c) 0 ∅ 0 ∗ atPos ER (recvCell c c) 0 ∅ 0)

theorem invs_own (k : Own) : invs X Y K ⊢ cellInv ER (rd X Y) (K (ownCell c k)) (ownCell c k) := by
  unfold invs
  match k with
  | .inl p =>
    iintro ⟨-, #H, -⟩
    iapply (all_elim (fun cp : Dev nD × Dev nD => cellInv ER (rd X Y) (K (sendCell cp.1 cp.2)) (sendCell cp.1 cp.2)) (c, p)) $$ H
  | .inr (.inl s) =>
    iintro ⟨-, -, #H, -⟩
    iapply (all_elim (fun cp : Dev nD × Dev nD => cellInv ER (rd X Y) (K (recvCell cp.1 cp.2)) (recvCell cp.1 cp.2)) (c, s)) $$ H
  | .inr (.inr i) =>
    iintro ⟨-, -, -, #H, -⟩
    iapply (all_elim (fun ci : Dev nD × Fin 4 => cellInv ER (rd X Y) (K (copyCell ci.1 ci.2)) (copyCell ci.1 ci.2)) (c, i)) $$ H

theorem open_one (k : Own) : iprop(invs X Y K ∗ (openTok ER (ownCell c k) ∗ semVal (ownCell c k) 0))
    ⊢ (iprop(|={Set.univ}=> (atPos ER (ownCell c k) 0 ∅ 0 ∗ reached ER (ownCell c k) 0)) : sProp 𝕄) := by
  iintro ⟨#HI, Ho, Hv⟩
  iapply (Rounds.cell_open ER (rd X Y) (g := ownCell c k) (Set.mem_univ (K (ownCell c k))))
  isplitr; · iapply (invs_own X Y K c k) $$ HI
  isplitl [Ho] <;> iassumption

/-- The dormant cells opened, all at once. -/
theorem own_opened : iprop(invs X Y K ∗ (bigSep Finset.univ fun k : Own => openTok ER (ownCell c k)) ∗ Pipeline.ownSems0 osem c)
    ⊢ (iprop(|={Set.univ}=> ((bigSep Finset.univ fun k : Own => atPos ER (ownCell c k) 0 ∅ 0)
        ∗ bigSep Finset.univ fun k : Own => reached ER (ownCell c k) 0)) : sProp 𝕄) := by
  unfold Pipeline.ownSems0
  iintro ⟨#HI, Ho, Hv⟩
  ihave H := (Entails.of_eq (pairs Finset.univ (fun k : Own => (openTok ER (ownCell c k) : sProp 𝕄)) (fun k : Own => (semVal (ownCell c k) 0 : sProp 𝕄))).symm) $$ [Ho Hv]
  · isplitl [Ho] <;> iassumption
  ihave H' := (bigSep_with_persistent (R := invs X Y K) (Φ := fun k : Own => iprop(openTok ER (ownCell c k) ∗ semVal (ownCell c k) 0))
    (Ψ := fun k : Own => iprop(|={Set.univ}=> (atPos ER (ownCell c k) 0 ∅ 0 ∗ reached ER (ownCell c k) 0))) fun k _ => open_one X Y K c k) $$ [H]
  · isplitr; · iexact HI
    iexact H
  imod (bigSep_fupd Finset.univ fun k : Own => (iprop(atPos ER (ownCell c k) 0 ∅ 0 ∗ reached ER (ownCell c k) 0) : sProp 𝕄)) $$ H' with H
  imodintro
  iapply (Entails.of_eq (pairs Finset.univ (fun k : Own => (atPos ER (ownCell c k) 0 ∅ 0 : sProp 𝕄)) (fun k : Own => (reached ER (ownCell c k) 0 : sProp 𝕄)))) $$ H

theorem close_one (k : Own) : iprop(invs X Y K ∗ atPos ER (ownCell c k) 1 ∅ 0) ⊢ (iprop(|={Set.univ}=> semVal (ownCell c k) 0) : sProp 𝕄) := by
  iintro ⟨#HI, Ha⟩
  iapply (Rounds.cell_close ER (rd X Y) (g := ownCell c k) (Set.mem_univ (K (ownCell c k))) id (R := 1) (duties_later X Y _))
  isplitr; · iapply (invs_own X Y K c k) $$ HI
  iexact Ha

theorem close_family {T : Type} [DecidableEq T] (S : Finset T) (f : T → Own) :
    iprop(invs X Y K ∗ bigSep S fun t => atPos ER (ownCell c (f t)) 1 ∅ 0) ⊢ (iprop(|={Set.univ}=> bigSep S fun t => semVal (ownCell c (f t)) 0) : sProp 𝕄) :=
  (bigSep_with_persistent (R := invs X Y K) (Φ := fun t => (atPos ER (ownCell c (f t)) 1 ∅ 0 : sProp 𝕄))
    (Ψ := fun t => (iprop(|={Set.univ}=> semVal (ownCell c (f t)) 0) : sProp 𝕄)) fun t _ => close_one X Y K c (f t)).trans
    (bigSep_fupd S fun t => (semVal (ownCell c (f t)) 0 : sProp 𝕄))

/-- Every cell of the device closed, its counter taken back at zero. -/
theorem own_closed : iprop(recs X Y K c ∗ Pos (F := F) c 1 ∗ SelfPos (F := F) c)
    ⊢ (iprop(|={Set.univ}=> (semVal (barCell c) 0 ∗ Pipeline.ownSems0 osem c)) : sProp 𝕄) := by
  unfold Pipeline.ownSems0
  rw [over_own (F := F), at_self (F := F) c fun p : Dev nD => (semVal ((c : Thread nD τ), osem (.inl p)) 0 : sProp 𝕄),
    at_self (F := F) c fun p : Dev nD => (semVal ((c : Thread nD τ), osem (.inr (.inl p))) 0 : sProp 𝕄)]
  unfold Pos SelfPos
  iintro ⟨#HR, ⟨Hb, Hs, Hr, Hc⟩, Hss, Hrr⟩
  ihave #HI := (show recs X Y K c ⊢ invs X Y K from by unfold recs; iintro ⟨H, -⟩; iexact H) $$ HR
  imod (Rounds.cell_close ER (rd X Y) (g := barCell c) (Set.mem_univ (K (barCell c))) id (R := 1) (duties_later X Y _)) $$ [Hb] with Hb
  · isplitr; · iapply (recs_bar X Y K c c) $$ HR
    iexact Hb
  imod (Rounds.cell_close ER (rd X Y) (g := sendCell c c) (Set.mem_univ (K (sendCell c c))) id (R := 0) (fun r _ => duties_send_self X Y c r)) $$ [Hss] with Hss
  · isplitr; · iapply (recs_send X Y K c c c) $$ HR
    iexact Hss
  imod (Rounds.cell_close ER (rd X Y) (g := recvCell c c) (Set.mem_univ (K (recvCell c c))) id (R := 0) (fun r _ => duties_recv_self X Y c r)) $$ [Hrr] with Hrr
  · isplitr; · iapply (recs_recv X Y K c c c) $$ HR
    iexact Hrr
  imod (close_family X Y K c (Finset.univ.erase c) (fun p => .inl p)) $$ [Hs] with Hs
  · isplitr; · iexact HI
    iexact Hs
  imod (close_family X Y K c (Finset.univ.erase c) (fun p => .inr (.inl p))) $$ [Hr] with Hr
  · isplitr; · iexact HI
    iexact Hr
  imod (close_family X Y K c Finset.univ (fun i => .inr (.inr i))) $$ [Hc] with Hc
  · isplitr; · iexact HI
    iexact Hc
  imodintro
  isplitl [Hb]; · iexact Hb
  isplitl [Hss Hs]
  · isplitl [Hss]; · iexact Hss
    iexact Hs
  isplitl [Hrr Hr]
  · isplitl [Hrr]; · iexact Hrr
    iexact Hr
  iexact Hc

/-! ## What the launch deals -/

/-- The ghost state of a device when its region begins, under some names; -/
def Ghost : sProp 𝕄 :=
  iprop(invs X Y K ∗ atPos ER (barCell c) 0 ∅ 0 ∗ (bigSep Finset.univ fun k : Own => openTok ER (ownCell c k)) ∗ Toks (F := F) c)
/-- with the credit, the launch's share; -/
def Tk : sProp 𝕄 := iprop((∃ K, Ghost X Y K c) ∗ Creds (F := F) c)
/-- and with the own cells opened. -/
def Xk : sProp 𝕄 := iprop((∃ K, recs X Y K c) ∗ Toks (F := F) c ∗ Creds (F := F) c ∗ Pos (F := F) c 0 ∗ SelfPos (F := F) c)
/-- What is left at the end: the barrier's counter, at zero. -/
def Yk : sProp 𝕄 := semVal (barCell c) 0

theorem region_open : iprop(Tk X Y c ∗ Pipeline.ownSems0 osem c ∗ levAts L lv) ⊢ (iprop(|={Set.univ}=> Xk X Y c) : sProp 𝕄) := by
  unfold Tk Xk Ghost
  iintro ⟨⟨⟨%K, #HI, Hb, Ho, Ht⟩, Hc⟩, Hs, #Hl⟩
  imod (own_opened X Y K c) $$ [Ho Hs] with ⟨Ha, #Hr⟩
  · isplitr; · iexact HI
    isplitl [Ho] <;> iassumption
  ihave Ha' := (Entails.of_eq (over_own fun k : Own => (atPos ER (ownCell c k) 0 ∅ 0 : sProp 𝕄))) $$ Ha
  ihave Hr' := (Entails.of_eq (over_own fun k : Own => (reached ER (ownCell c k) 0 : sProp 𝕄))) $$ Hr
  icases Ha' with ⟨Has, Har, Hac⟩
  icases Hr' with ⟨#Hrs, #Hrr, #Hrc⟩
  ihave Has' := (Entails.of_eq (at_self c fun p : Dev nD => (atPos ER (ownCell c (.inl p)) 0 ∅ 0 : sProp 𝕄))) $$ Has
  ihave Har' := (Entails.of_eq (at_self c fun p : Dev nD => (atPos ER (ownCell c (.inr (.inl p))) 0 ∅ 0 : sProp 𝕄))) $$ Har
  icases Has' with ⟨Hss, Has⟩
  icases Har' with ⟨Hsr, Har⟩
  imodintro
  isplitr
  · iexists K; unfold recs
    isplitr; · iexact HI
    isplitr; · iexact Hrs
    isplitr; · iexact Hrr
    isplitr; · iexact Hrc
    iexact Hl
  isplitl [Ht]; · iexact Ht
  isplitl [Hc]; · iexact Hc
  isplitl [Hb Has Har Hac]
  · unfold Pos
    isplitl [Hb]; · iexact Hb
    isplitl [Has]; · iexact Has
    isplitl [Har]; · iexact Har
    iexact Hac
  unfold SelfPos
  isplitl [Hss]; · iexact Hss
  iexact Hsr

/-! ## The launch's cells and tokens -/

def barEmb : Dev nD ↪ GSem nD τ sig := ⟨fun c => barCell c, fun _ _ h => congrArg (fun g : GSem nD τ sig => g.1.1) h⟩
def ownEmb : Dev nD × Own ↪ GSem nD τ sig :=
  ⟨fun ck => ownCell ck.1 ck.2, fun _ _ h => Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem cells_disjoint : Disjoint barCells ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem : barCell c ∈ barCells ∪ ownCells := Finset.mem_union_left _ (Finset.mem_map_of_mem barEmb (Finset.mem_univ c))
theorem own_mem (k : Own) : ownCell c k ∈ barCells ∪ ownCells :=
  Finset.mem_union_right _ (Finset.mem_map_of_mem ownEmb (Finset.mem_univ (c, k)))

/-- The cells device `c` pays at: the barriers of the others, its own sends, the others' receives, its own copies. -/
def payAt (j : Dev nD ⊕ Own) : GSem nD τ sig := match j with
  | .inl p => barCell p
  | .inr (.inl p) => sendCell c p
  | .inr (.inr (.inl p)) => recvCell p c
  | .inr (.inr (.inr i)) => copyCell c i

theorem payAt_inj : Function.Injective (payAt c) := by
  have hr (j : Dev nD ⊕ Own) : (role (payAt c j).2, (payAt c j).1.1) = match j with
      | .inl p => (Role.bar, p) | .inr (.inl p) => (Role.send p, c) | .inr (.inr (.inl p)) => (Role.recv c, p)
      | .inr (.inr (.inr i)) => (Role.copy i, c) := by
    match j with
    | .inl p => exact Prod.ext role_bar rfl
    | .inr (.inl p) => exact Prod.ext (role_send p) rfl
    | .inr (.inr (.inl p)) => exact Prod.ext (role_recv c) rfl
    | .inr (.inr (.inr i)) => exact Prod.ext (role_copy i) rfl
  intro j j' h
  have e := (hr j).symm.trans ((congrArg (fun g : GSem nD τ sig => (role g.2, g.1.1)) h).trans (hr j'))
  match j, j', e with
  | .inl p, .inl p', e => rw [(Prod.mk.inj e).2]
  | .inr (.inl p), .inr (.inl p'), e => rw [Role.send.inj (Prod.mk.inj e).1]
  | .inr (.inr (.inl p)), .inr (.inr (.inl p')), e => rw [(Prod.mk.inj e).2]
  | .inr (.inr (.inr i)), .inr (.inr (.inr i')), e => rw [Role.copy.inj (Prod.mk.inj e).1]

def tokEmb : Dev nD × (Dev nD ⊕ Own) ↪ GSem nD τ sig × ℕ × Dev nD :=
  ⟨fun cj => (payAt cj.1 cj.2, 0, cj.1), fun a b h => by
    have h1 : a.1 = b.1 := congrArg (fun x : GSem nD τ sig × ℕ × Dev nD => x.2.2) h
    have h2 : payAt a.1 a.2 = payAt b.1 b.2 := congrArg Prod.fst h
    rw [← h1] at h2
    exact Prod.ext h1 (payAt_inj a.1 h2)⟩

abbrev allToks : Finset (GSem nD τ sig × ℕ × Dev nD) := Finset.univ.map tokEmb

theorem toks_of : (bigSep Finset.univ fun j : Dev nD ⊕ Own => (dutyTok ER (payAt c j) 0 c : sProp 𝕄)) ⊢ Toks c := by
  rw [bigSep_univ_sum]
  have h1 := at_self (F := F) c fun p : Dev nD => (dutyTok ER (barCell p) 0 c : sProp 𝕄)
  have h2 := over_own (F := F) fun k : Own => (dutyTok ER (payAt c (.inr k)) 0 c : sProp 𝕄)
  have h3 := at_self (F := F) c fun p : Dev nD => (dutyTok ER (payAt c (.inr (.inl p))) 0 c : sProp 𝕄)
  have h4 := at_self (F := F) c fun p : Dev nD => (dutyTok ER (payAt c (.inr (.inr (.inl p)))) 0 c : sProp 𝕄)
  show iprop((bigSep Finset.univ fun p : Dev nD => (dutyTok ER (barCell p) 0 c : sProp 𝕄))
    ∗ (bigSep Finset.univ fun k : Own => (dutyTok ER (payAt c (.inr k)) 0 c : sProp 𝕄))) ⊢ Toks c
  unfold Toks
  iintro ⟨Hb, H⟩
  ihave Hb' := (Entails.of_eq h1) $$ Hb
  icases Hb' with ⟨-, Hb⟩
  ihave H' := (Entails.of_eq h2) $$ H
  icases H' with ⟨Hs, Hr, Hc⟩
  ihave Hs' := (Entails.of_eq h3) $$ Hs
  ihave Hr' := (Entails.of_eq h4) $$ Hr
  icases Hs' with ⟨-, Hs⟩
  icases Hr' with ⟨-, Hr⟩
  isplitl [Hb]; · iexact Hb
  isplitl [Hs Hr]
  · iapply (join (Finset.univ.erase c) (fun p => (dutyTok ER (sendCell c p) 0 c : sProp 𝕄)) (fun p => (dutyTok ER (recvCell p c) 0 c : sProp 𝕄)))
    isplitl [Hs]; · iexact Hs
    iexact Hr
  iexact Hc

/-- All the launch's tokens, dealt to the devices that pay with them. -/
theorem toks_all : bigSep allToks (fun x => (dutyTok ER x.1 x.2.1 x.2.2 : sProp 𝕄)) ⊢ bigSep Finset.univ fun c : Dev nD => Toks c := by
  rw [bigSep_map, bigSep_univ_prod]
  exact bigSep_mono fun c _ => toks_of c

/-! ## The launch's credit -/

theorem owed_at_bar (d : Dev nD) : O₀ d (barCell c) () = if d = c then 0 else 1 := by
  unfold O₀
  rw [Pi.add_apply, Finsupp.add_apply]
  have h2 : owedRecv (Finset.univ.erase d) d (barCell c) () = 0 := by
    by_contra h
    obtain ⟨p, -, hp⟩ := owedRecv_pos (Nat.pos_of_ne_zero h)
    have := (congrArg (fun g : GSem nD τ sig => role g.2) hp).trans (role_recv d)
    exact absurd this (by rw [show role (barCell c).2 = Role.bar from role_bar]; intro h; cases h)
  rw [h2, Nat.add_zero]
  unfold owedBar
  rw [Finset.sum_apply, Finsupp.finset_sum_apply, Finset.sum_congr rfl (g := fun p => if p = c then 1 else 0) fun p _ => by
    rw [tallyAt_apply]
    by_cases h : p = c
    · subst h; rw [if_pos ⟨rfl, rfl⟩, if_pos rfl]
    · rw [if_neg (fun hh => h (congrArg (fun g : GSem nD τ sig => g.1.1) hh.1).symm), if_neg h]]
  rw [Finset.sum_ite_eq']
  by_cases h : d = c
  · rw [if_pos h, if_neg (fun hm => (Finset.mem_erase.mp hm).1 h.symm)]
  · rw [if_neg h, if_pos (Finset.mem_erase.mpr ⟨fun e => h e.symm, Finset.mem_univ _⟩)]

theorem owed_at_recv {s : Dev nD} (hs : s ≠ c) (d : Dev nD) : O₀ d (recvCell c s) () = if d = s then N else 0 := by
  unfold O₀
  rw [Pi.add_apply, Finsupp.add_apply]
  have h2 : owedBar (Finset.univ.erase d) (recvCell c s) () = 0 := by
    by_contra h
    obtain ⟨p, -, hp⟩ := owedBar_pos (Nat.pos_of_ne_zero h)
    have := (role_recv s).symm.trans ((congrArg (fun g : GSem nD τ sig => role g.2) hp).trans role_bar)
    cases this
  rw [h2, Nat.zero_add]
  by_cases h : d = s
  · subst h
    rw [if_pos rfl]
    unfold owedRecv
    rw [Finset.sum_apply, Finsupp.finset_sum_apply, Finset.sum_eq_single c]
    · rw [tallyAt_apply, if_pos ⟨rfl, rfl⟩]
    · intro p _ hp
      rw [tallyAt_apply, if_neg (fun hh => hp (congrArg (fun g : GSem nD τ sig => g.1.1) hh.1).symm)]
    · intro hm; exact absurd (Finset.mem_erase.mpr ⟨fun e => hs e.symm, Finset.mem_univ _⟩) hm
  · rw [if_neg h]
    by_contra h0
    obtain ⟨p, -, hp⟩ := owedRecv_pos (Nat.pos_of_ne_zero h0)
    have := (role_recv s).symm.trans ((congrArg (fun g : GSem nD τ sig => role g.2) hp).trans (role_recv d))
    exact h (Role.recv.inj this).symm

theorem launch_bar : tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_at_bar c d]
  revert c; decide +kernel

theorem launch_recv {s : Dev nD} (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_at_recv c hs d, Finset.sum_ite_eq' Finset.univ s fun _ => N,
    if_pos (Finset.mem_univ _)]

def recvLocs : Dev nD ↪ SemLoc sig := ⟨fun s => .dma (recvS s), by decide +kernel⟩

theorem recvLocs_sub : (Finset.univ.erase c).map recvLocs ⊆ (Finset.univ.erase (SemLoc.reg barS) : Finset (SemLoc sig)) := by
  intro x hx
  obtain ⟨s, -, rfl⟩ := Finset.mem_map.mp hx
  refine Finset.mem_erase.mpr ⟨fun h => ?_, Finset.mem_univ _⟩
  cases h

omit [FloatOps F] in
theorem creds : (Pipeline.launchCred O₀ c : sProp 𝕄) ⊢ Creds c := by
  unfold Pipeline.launchCred Creds
  rw [bigSep_univ_at _ (SemLoc.reg barS), launch_bar]
  refine sep_mono_right ?_
  have hsub : (Finset.univ.erase (SemLoc.reg barS) : Finset (SemLoc sig))
      = (Finset.univ.erase c).map recvLocs ∪ ((Finset.univ.erase (SemLoc.reg barS)) \ (Finset.univ.erase c).map recvLocs) :=
    (Finset.union_sdiff_of_subset (recvLocs_sub c)).symm
  rw [hsub, bigSep_union Finset.disjoint_sdiff]
  refine (show iprop(bigSep ((Finset.univ.erase c).map recvLocs) _ ∗ _) ⊢ _ from ?_)
  iintro ⟨H, -⟩
  iapply (show (bigSep ((Finset.univ.erase c).map recvLocs) fun sm : SemLoc sig =>
      (cred (tallyOn ((c : Thread nD τ), sm) (launchCredit (Pipeline.owing O₀) 0 ((c : Thread nD τ), sm))) : sProp 𝕄))
    ⊢ bigSep (Finset.univ.erase c) fun p => cred (tallyAt (recvCell c p) () N) from by
      rw [bigSep_map]
      exact bigSep_mono fun s hs => Entails.of_eq (congrArg (fun t : CellTallies nD τ sig Unit => (cred t : sProp 𝕄)) (launch_recv c (Finset.ne_of_mem_erase hs)))) $$ H

end Cert.KernelIdeal.Talk

end
-- ==== Proof.RunIdeal.lean ====
/-
  The whole program on all the devices: the two reshapes, the kernel's region, and what every final state holds.
-/
module

public import proofs.«01_k».proof.Proof.CellsIdeal
public import proofs.«01_k».proof.Proof.Gen.KernelIdeal.Frame
public import Idealize.ShloMosaic.Lib.Pipeline.RegionTalk
public import Idealize.ShloMosaic.Lib.Pipeline.Regions
public import Idealize.ShloMosaic.Lib.Pipeline.Kit
public import Idealize.ShloMosaic.Lib.Quiescent

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the devices hold -/

/-- A device's block of the input, its weights and offsets as rows, and its result. -/
def blockX : XBuf F := m ((c : Thread nD τ).loc main_arg0)
def rowG : GBuf F := V m c main_v1
def rowB : GBuf F := V m c main_v2
def blockY : XBuf F := outOf (blockX m) (blockX m c) (rowG m c) (rowB m c)

/-- The contents at launch, when the region begins, and when it ends. -/
abbrev V₀ : Valuation τ sig (Elt F) := fun b => m (c, b)
abbrev V₁ : Valuation τ sig (Elt F) := StableHlo.after hostOps0 (V₀ m c)
def V₂ : Valuation τ sig (Elt F) := Function.update (V₁ m c) (Proc.devRef .tc main_v3) (blockY m c)

theorem V₂_v3 : V₂ m c main_v3 = blockY m c := Function.update_self ..
theorem V₂_of (b : DevRef τ sig) (h : b ≠ Proc.devRef .tc main_v3) : V₂ m c b = V₁ m c b := Function.update_of_ne h ..
theorem V₁_arg0 : V₁ m c main_arg0 = blockX m c := V_main_arg0 m c

/-- The two buffers the kernel copies from and to, and all those it is given by the way. -/
abbrev Hs : Finset (DevRef τ sig) := {Proc.devRef .tc main_arg0, Proc.devRef .tc main_v3}
abbrev Sr : Finset (DevRef τ sig) := Pipeline.ucRefs τ sig \ Pipeline.arrRefs (τ := τ) spec0

theorem Hs_sub : Hs ⊆ Sr := by decide +kernel
theorem arrs_sub : Pipeline.arrRefs (τ := τ) spec0 ⊆ Pipeline.ucRefs τ sig := by decide +kernel

theorem held_all (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) Sr W) :=
  StableHlo.held_sub_split _ arrs_sub W

abbrev pt (b : Ref sig .tc) (f : Buf (Elt F) ((c : Thread nD τ).loc b)) : sProp 𝕄 := ((c : Thread nD τ).loc b) ↦{fullShare} f

theorem held_two (W : Valuation τ sig (Elt F)) : (StableHlo.held (c : Thread nD τ) Hs W : sProp 𝕄)
    = iprop(pt c main_arg0 (W main_arg0) ∗ pt c main_v3 (W main_v3)) := by
  unfold StableHlo.held
  rw [bigSep_insert (by decide), bigSep_singleton]
  rfl

theorem pts_whole (b : Ref sig .tc) {sp : Space} {s : Shape} (M : Memref sig .tc sp s .f32) (h : M.view.set = Finset.univ)
    (f : Buf (Elt F) (M.view.loc (c : Thread nD τ))) : pts M c fullShare f = (M.view.loc (c : Thread nD τ) ↦{fullShare} f : sProp 𝕄) := by
  unfold pts; rw [h]

/-! ## The proof data -/

/-- Before the kernel's only point, -/
def Before : sProp 𝕄 :=
  iprop(Xk (blockX m) (blockY m) c ∗ Pipeline.scopedRest (Ix := Unit) (Name := ℕ) (U := UU) (Lvl := ℕ) (Val := Elt F) spec0 c ∗ (∃ r, prngReg c r)
    ∗ pt c main_arg0 (blockX m c) ∗ ∃ f, pt c main_v3 f)
/-- and after it. -/
def After : sProp 𝕄 :=
  iprop(Yk (F := F) c ∗ Pipeline.ownSems0 osem c ∗ Pipeline.scopedRest (Ix := Unit) (Name := ℕ) (U := UU) (Lvl := ℕ) (Val := Elt F) spec0 c ∗ (∃ r, prngReg c r)
    ∗ pt c main_arg0 (blockX m c) ∗ pt c main_v3 (blockY m c))

def dat : Dat τ (Elt F) Unit ℕ UU ℕ cfg0 c where
  A w := V m c (Pipeline.arrRef spec0 w)
  after w _ := match w with
    | ⟨0, _⟩ => rowG m c
    | ⟨1, _⟩ => rowB m c
  Φ t := if t.val = 0 then Before m c else After m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem read_v1 (f : Buf (Elt F) ((c : Thread nD τ).loc main_v1)) : (win0_0.blk t0_0).view.read (Elt F) f = f :=
  Memref.read_access_unit_zero (Elt F) main_v1 (show (fun a => (win0_0.index t0_0) a * main_v1.ty.shape.size a) = fun _ => 0 from
    funext fun a => by fin_cases a <;> decide) (fun a => by fin_cases a <;> decide) f
theorem read_v2 (f : Buf (Elt F) ((c : Thread nD τ).loc main_v2)) : (win0_1.blk t0_0).view.read (Elt F) f = f :=
  Memref.read_access_unit_zero (Elt F) main_v2 (show (fun a => (win0_1.index t0_0) a * main_v2.ty.shape.size a) = fun _ => 0 from
    funext fun a => by fin_cases a <;> decide) (fun a => by fin_cases a <;> decide) f

theorem before_g (d) : (dat m c).before 0 t0_0 d = rowG m c := by
  unfold Dat.before; rw [if_pos (by decide)]
  show (win0_0.blk t0_0).view.read (Elt F) (V m c main_v1) = _
  exact read_v1 c _
theorem before_b (d) : (dat m c).before 1 t0_0 d = rowB m c := by
  unfold Dat.before; rw [if_pos (by decide)]
  show (win0_1.blk t0_0).view.read (Elt F) (V m c main_v2) = _
  exact read_v2 c _

omit [FloatOps F] in
theorem owns_whole_eq (b : Ref sig .tc) (f : b.ty.Contents (Elt F)) :
    (owns (Ix := Unit) (Name := ℕ) (U := UU) (Lvl := ℕ) (c : Thread nD τ) (Memref.whole b) fullShare f : sProp 𝕄)
      = (((c : Thread nD τ).loc b) ↦{fullShare} f) := owns_whole (c : Thread nD τ) b fullShare f

theorem owesAt_intro (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owesAt_elim (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem N_one : cfg0.N = 1 := N_0
theorem last_val : (Fin.last cfg0.N).val ≠ 0 := by rw [Fin.val_last, N_one]; decide

theorem dat_first : (dat m c).Φ (0 : Fin (cfg0.N + 1)) = Before m c := by
  show (if (0 : Fin (cfg0.N + 1)).val = 0 then Before m c else After m c) = _; exact if_pos rfl
theorem dat_last : (dat m c).Φ (Fin.last cfg0.N) = After m c := by
  show (if (Fin.last cfg0.N).val = 0 then Before m c else After m c) = _; exact if_neg last_val
theorem owed_first : (dat m c).owed (0 : Fin (cfg0.N + 1)) = O₀ c := by
  show (if (0 : Fin (cfg0.N + 1)).val = 0 then O₀ c else 0) = _; exact if_pos rfl
theorem owed_last : (dat m c).owed (Fin.last cfg0.N) = 0 := by
  show (if (Fin.last cfg0.N).val = 0 then O₀ c else 0) = _; exact if_neg last_val

/-! ## The body -/

theorem scratch_in : Pipeline.scopedRest (Ix := Unit) (Name := ℕ) (U := UU) (Lvl := ℕ) (Val := Elt F) spec0 c
    ⊢ (iprop((∃ f, pts xM c fullShare f) ∗ (∃ f, pts oM c fullShare f) ∗ ∃ f, pts stM c fullShare f) : sProp 𝕄) := by
  rw [scopedRest0_eq]
  iintro ⟨⟨%f, H1⟩, ⟨%g, H2⟩, ⟨%h, H3⟩⟩
  isplitl [H1]
  · iexists f; rw [pts_whole c cc0_scratch0 xM (View.set_whole _)]; iexact H1
  isplitl [H2]
  · iexists g; rw [pts_whole c cc0_scratch1 oM (View.set_whole _)]; iexact H2
  iexists h; rw [pts_whole c cc0_scratch2 stM (View.set_whole _)]; iexact H3

theorem scratch_out : (iprop((∃ f, pts xM c fullShare f) ∗ (∃ f, pts oM c fullShare f) ∗ ∃ f, pts stM c fullShare f) : sProp 𝕄)
    ⊢ Pipeline.scopedRest (Ix := Unit) (Name := ℕ) (U := UU) (Lvl := ℕ) (Val := Elt F) spec0 c := by
  rw [scopedRest0_eq]
  iintro ⟨⟨%f, H1⟩, ⟨%g, H2⟩, ⟨%h, H3⟩⟩
  isplitl [H1]
  · iexists f; iapply (Entails.of_eq (pts_whole c cc0_scratch0 xM (View.set_whole _) f)) $$ H1
  isplitl [H2]
  · iexists g; iapply (Entails.of_eq (pts_whole c cc0_scratch1 oM (View.set_whole _) g)) $$ H2
  iexists h; iapply (Entails.of_eq (pts_whole c cc0_scratch2 stM (View.set_whole _) h)) $$ H3

/-- The body between the two, the weights and offsets staged. -/
theorem point_run (Q : PUnit → sProp 𝕄) :
    iprop(Before m c ∗ (∃ W, owes (c : Thread nD τ) (O₀ c) W) ∗ pt c cc0_stg0_0 (rowG m c) ∗ pt c cc0_stg1_0 (rowB m c)
        ∗ ((After m c ∗ (∃ W, owes (c : Thread nD τ) (0 : CellTallies nD τ sig Unit) W) ∗ pt c cc0_stg0_0 (rowG m c) ∗ pt c cc0_stg1_0 (rowB m c)) -∗ Q ⟨⟩))
      ⊢ WP c (cc0_body (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5) Q := by
  unfold Before Xk
  iintro ⟨⟨⟨⟨%K, #HR⟩, Ht, Hc, Hp, Hself⟩, Hsc, Hprng, Hx, ⟨%fy, Hy⟩⟩, HO, Hg, Hb, Hk⟩
  ihave Hsc' := (scratch_in (F := F) c) $$ Hsc
  icases Hsc' with ⟨H1, H2, H3⟩
  iapply (body_run (blockX m) (blockY m) K c (rowG m c) (rowB m c) rfl Q)
  isplitr; · iexact HR
  isplitl [HO]; · iexact HO
  isplitl [Ht]; · iexact Ht
  isplitl [Hc]; · iexact Hc
  isplitl [Hp]; · iexact Hp
  isplitl [Hx Hg Hb H1 H2 H3]
  · unfold Bufs
    isplitl [Hx]; · rw [pts_whole c main_arg0 xinM (View.set_whole _)]; iexact Hx
    isplitl [Hg]; · rw [pts_whole c cc0_stg0_0 gM (View.set_whole _)]; iexact Hg
    isplitl [Hb]; · rw [pts_whole c cc0_stg1_0 bM (View.set_whole _)]; iexact Hb
    isplitl [H1]; · iexact H1
    isplitl [H2] <;> iassumption
  isplitl [Hy]; · iexists fy; rw [pts_whole c main_v3 youtM (View.set_whole _)]; iexact Hy
  unfold Bufs
  iintro ⟨HO, Hp, ⟨Hx, Hg, Hb, H1, H2, H3⟩, Hy⟩
  imod (own_closed (blockX m) (blockY m) K c) $$ [Hp Hself] with ⟨Hbar, Hown⟩
  · isplitr; · iexact HR
    isplitl [Hp] <;> iassumption
  imodintro
  iapply Hk
  isplitr [HO Hg Hb]
  · unfold After Yk
    isplitl [Hbar]; · iexact Hbar
    isplitl [Hown]; · iexact Hown
    isplitl [H1 H2 H3]
    · iapply (scratch_out (F := F) c)
      isplitl [H1]; · iexact H1
      isplitl [H2] <;> iassumption
    isplitl [Hprng]; · iexact Hprng
    isplitl [Hx]
    · iapply (Entails.of_eq (pts_whole c main_arg0 xinM (View.set_whole _) (blockX m c))) $$ Hx
    iapply (Entails.of_eq (pts_whole c main_v3 youtM (View.set_whole _) (blockY m c))) $$ Hy
  isplitl [HO]; · iexact HO
  isplitl [Hg]
  · iapply (Entails.of_eq (pts_whole c cc0_stg0_0 gM (View.set_whole _) (rowG m c))) $$ Hg
  iapply (Entails.of_eq (pts_whole c cc0_stg1_0 bM (View.set_whole _) (rowB m c))) $$ Hb

set_option maxRecDepth 4000 in
def bodyPre : sProp 𝕄 :=
  iprop((dat m c).Φ t0_0.castSucc ∗ (dat m c).owesAt () t0_0.castSucc
    ∗ (∃ d, pt c cc0_stg0_0 ((dat m c).before (0 : Fin 2) t0_0 d)) ∗ (∃ d, pt c cc0_stg1_0 ((dat m c).before (1 : Fin 2) t0_0 d)))
set_option maxRecDepth 4000 in
def bodyPost : sProp 𝕄 :=
  iprop((dat m c).Φ t0_0.succ ∗ (dat m c).owesAt () t0_0.succ
    ∗ pt c cc0_stg0_0 ((dat m c).after (0 : Fin 2) t0_0) ∗ pt c cc0_stg1_0 ((dat m c).after (1 : Fin 2) t0_0))

theorem succ_last : t0_0.succ = Fin.last cfg0.N := Fin.ext N_0.symm

set_option maxRecDepth 20000 in
theorem body_obligation : BodyObligation (dat m c) (defs₀ (F := F)) 𝒱₀ () Set.univ := fun t => by
  rw [fin_N0 t]
  rw [bigSep_W0, bigSep_W0]
  simp only [owns_whole_eq]
  show bodyPre m c ⊢ WP c (cc0_body (F := F) xinM (Memref.isWhole_whole _) gM (Memref.isWhole_whole _) bM (Memref.isWhole_whole _) youtM (Memref.isWhole_whole _) xM (Memref.isWhole_whole _) oM (Memref.isWhole_whole _) stM (Memref.isWhole_whole _) cc0_scratch3 cc0_scratch4 cc0_scratch5)
    (fun _ => bodyPost m c)
  unfold bodyPre bodyPost
  rw [succ_last, show t0_0.castSucc = (0 : Fin (cfg0.N + 1)) from rfl, dat_first, dat_last]
  iintro ⟨HB, HO, ⟨%d, Hg⟩, ⟨%d', Hb⟩⟩
  ihave Hg' := (Entails.of_eq (congrArg (pt c cc0_stg0_0) (before_g m c d))) $$ Hg
  ihave Hb' := (Entails.of_eq (congrArg (pt c cc0_stg1_0) (before_b m c d'))) $$ Hb
  iapply (point_run m c _)
  isplitl [HB]; · iexact HB
  isplitl [HO]; · iapply (owesAt_elim m c 0 (O₀ c) (owed_first m c)) $$ HO
  isplitl [Hg']; · iexact Hg'
  isplitl [Hb']; · iexact Hb'
  iintro ⟨HA, ⟨%W, HO⟩, Hg, Hb⟩
  isplitl [HA]; · iexact HA
  isplitl [HO]; · iapply (owesAt_intro m c (Fin.last _) 0 (owed_last m c) W) $$ HO
  isplitl [Hg]; · iexact Hg
  iexact Hb

/-! ## The region -/

theorem owed_pos {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · obtain ⟨p, -, rfl⟩ := owedBar_pos h
    exact ⟨by rw [L_tc]; exact Finset.mem_singleton_self _, by rw [lv_bar]; decide⟩
  · obtain ⟨p, -, rfl⟩ := owedRecv_pos h
    exact ⟨by rw [L_tc]; exact Finset.mem_singleton_self _, by rw [lv_recv]; decide⟩

theorem levels_ok (t : Fin (cfg0.N + 1)) (g : GSem nD τ sig) (u : Unit) (h : 0 < (dat m c).owed t g u) : u ∈ L g ∧ 0 < lv g u := by
  have e : (dat m c).owed t = if t.val = 0 then O₀ c else 0 := rfl
  rw [e] at h
  split at h
  · exact owed_pos c h
  · exact absurd h (Nat.lt_irrefl 0)

theorem staging_level : ∀ (c : Dev nD) (w : Fin 2) (s : Fin (win0 w).nbuf), lv ((c : Thread nD τ), .dma ((win0 w).sem s)) () ≤ 0 := by
  decide +kernel

theorem share_full (w : Fin cfg0.W) : (dat m c).share w = fullShare := by unfold Dat.share; split <;> rfl

theorem region_in : iprop(Pipeline.scopedRest (Pipeline.pin (pcfgs (F := F)) adm 0).spec c ∗ (∃ r, prngReg c r)
      ∗ StableHlo.held (c.tc : Thread nD τ) Hs (V₁ m c) ∗ Xk (blockX m) (blockY m) c)
    ⊢ (pdats m 0 c).Φ 0 := by
  rw [show (pdats m 0 c).Φ 0 = Before m c from dat_first m c, held_two, V₁_arg0]
  unfold Before
  iintro ⟨Hs, Hp, ⟨Hx, Hy⟩, HX⟩
  isplitl [HX]; · iexact HX
  isplitl [Hs]; · iexact Hs
  isplitl [Hp]; · iexact Hp
  isplitl [Hx]; · iexact Hx
  iexists _; iexact Hy

theorem region_out : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V₂ m c) ∗ Pipeline.ownSems0 osem c ∗ Yk (F := F) c) := by
  rw [show (pdats m 0 c).Φ (Fin.last (Pipeline.pin (pcfgs (F := F)) adm 0).N) = After m c from dat_last m c, held_two, V₂_v3,
    V₂_of m c (Proc.devRef .tc main_arg0) (by decide), V₁_arg0]
  unfold After
  iintro ⟨HY, Hos, Hs, Hp, Hx, Hy⟩
  isplitl [Hs]; · iexact Hs
  isplitl [Hp]; · iexact Hp
  isplitl [Hx Hy]
  · isplitl [Hx] <;> iassumption
  isplitl [Hos] <;> iassumption

theorem kit : Pipeline.PLaunchFacts (nD := nD) (τ := τ) (pcfgs (F := F)) 0 := launch0.toP

theorem arr_end (w : Fin 2) : (dat m c).arrAt w cfg0.N = V₂ m c (Proc.devRef .tc (Pipeline.arrRef spec0 w)) := by
  match w with
  | ⟨0, _⟩ => exact ((dat m c).arrAt_in 0 rfl _).trans (V₂_of m c (Proc.devRef .tc main_v1) (by decide)).symm
  | ⟨1, _⟩ => exact ((dat m c).arrAt_in 1 rfl _).trans (V₂_of m c (Proc.devRef .tc main_v2) (by decide)).symm

theorem arr_begin (w : Fin 2) : (dat m c).arrAt w 0 = V₁ m c (Proc.devRef .tc (Pipeline.arrRef spec0 w)) := by
  match w with
  | ⟨0, _⟩ => exact (dat m c).arrAt_in 0 rfl _
  | ⟨1, _⟩ => exact (dat m c).arrAt_in 1 rfl _

local notation "ℍ" => Pipeline.HostSeg (Name := ℕ) (U := UU) (pcfgs (F := F)) defs₀ 𝒱₀ L lv
local notation "ℝ" => Pipeline.RegionSeg (pcfgs (F := F)) adm (pdats m) () defs₀ 𝒱₀ L lv

set_option backward.isDefEq.respectTransparency.types false in
def reg : ℝ 0 :=
  Pipeline.RegionSeg.ofTalk (pcfgs (F := F)) adm (pdats m) () defs₀ 𝒱₀ L lv 0 osem (by decide +kernel : Pipeline.OwnSemFacts spec0 osem)
    Hs Sr Hs_sub kit rfl (fun c => (body_obligation m c).loose)
    (fun _ => 0) O₀ (fun c => (owed_first m c).trans (zero_add _).symm) (owed_last m) (fun _ => rfl) (fun c w => share_full m c w)
    (V₁ m) (V₂ m) (fun c b hb => V₂_of m c b (fun e => (Finset.mem_sdiff.mp hb).2 (by rw [e]; decide)))
    (Tk (blockX m) (blockY m)) (Yk (F := F)) (Xk (blockX m) (blockY m)) (Yk (F := F)) (region_open (blockX m) (blockY m)) (region_in m) (region_out m)
    (fun c => by iintro H; imodintro; iexact H)
    (fun _ => 0)
    ⟨fun c w s => by rw [L_tc]; exact Finset.mem_singleton_self _, fun c w s => staging_level c w s, fun c t g i h => levels_ok m c t g i h⟩
    (fun _ => iprop(emp))
    (fun c w => arr_begin m c w) (fun c w => arr_end m c w)

/-- What rides along the reshapes: the launch's share, and what is owed. -/
def Along : sProp 𝕄 := iprop(Tk (blockX m) (blockY m) c ∗ (∃ r, prngReg c r) ∗ ∃ W, owes (c : Thread nD τ) (O₀ c) W)

theorem host_sub : ∀ op ∈ (hostOps0 : List (HloOp τ sig (Elt F))), op.bufs ⊆ Pipeline.ucRefs τ sig :=
  fun op h => Pipeline.sub_ucRefs op ((List.forall_iff_forall_mem.mp hostOps0_sub) op h)

def seg : ℍ := Pipeline.HostSeg.ofOps _ _ _ _ _ (Pipeline.ucRefs τ sig) hostOps0 host_sub (List.forall_iff_forall_mem.mp hostOps0_fresh) (V₀ m) (Along m)

theorem reg_pre : iprop(StableHlo.held (c : Thread nD τ) (Pipeline.ucRefs τ sig) (V₁ m c) ∗ Along m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) Sr (V₁ m c) ∗ emp) ∗ Tk (blockX m) (blockY m) c ∗ ∃ Wd, owes (c : Thread nD τ) (0 + O₀ c) Wd)
  rw [held_all, zero_add]
  unfold Along
  iintro ⟨⟨Ha, Hh⟩, HT, Hp, HO⟩
  isplitl [Ha]; · iexact Ha
  isplitl [Hp]; · iexact Hp
  isplitl [Hh]
  · isplitl [Hh]; · iexact Hh
    iempintro
  isplitl [HT] <;> iassumption

abbrev T₀ : sProp 𝕄 := iprop(StableHlo.held (c : Thread nD τ) (Pipeline.ucRefs τ sig) (V₀ m c) ∗ Along m c)
abbrev Tₙ : sProp 𝕄 := iprop(StableHlo.held (c : Thread nD τ) (Pipeline.ucRefs τ sig) (V₂ m c) ∗ Yk (F := F) c)

theorem reg_post : (reg m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) Sr (V₂ m c) ∗ emp) ∗ Yk (F := F) c ∗ ∃ Wd, owes (c : Thread nD τ) (0 : CellTallies nD τ sig Unit) Wd) ⊢ _
  unfold Tₙ
  rw [held_all]
  iintro ⟨Ha, -, ⟨Hh, -⟩, HY, HO⟩
  isplitr [HO]
  · isplitl [Ha Hh]
    · isplitl [Ha] <;> iassumption
    iexact HY
  iexact HO

def segs : List (Pipeline.Seg (pcfgs (F := F)) adm (pdats m) () defs₀ 𝒱₀ L lv) := [.host (seg m), .region (reg m)]

/-! ## The launch -/

theorem cells_inj : Function.Injective (Pipeline.cellOf (nD := nD) (τ := τ) (Pipeline.pin (pcfgs (F := F)) adm)) := kit.cellOf_inj adm

/-- The ghost state the launch starts from: the windows' part, and the protocol's. -/
def u₀ : UU :=
  (initOf (Pipeline.cells (Pipeline.pin (pcfgs (F := F)) adm) cells_inj) (Pipeline.launchToks (Pipeline.pin (pcfgs (F := F)) adm) cells_inj),
    launchOf barCells ownCells allToks)

/-- A resource of the whole launch, held by device 0 until it is dealt. -/
def atZero (P : sProp 𝕄) (c : Dev nD) : sProp 𝕄 := if c = 0 then P else iprop(emp)

omit [FloatOps F] in
theorem atZero_all (P : sProp 𝕄) : bigSep Finset.univ (atZero P) = P := by
  rw [bigSep_univ_at _ (0 : Dev nD), bigSep_congr (s := Finset.univ.erase (0 : Dev nD)) (Ψ := fun _ => (BI.emp : sProp 𝕄))
      fun d hd => by unfold atZero; rw [if_neg (Finset.ne_of_mem_erase hd)]; rfl, BI.bigSep_emp_const]
  unfold atZero; rw [if_pos rfl]
  exact BI.equiv_iff.mp sep_emp

def dealt : Dev nD → sProp 𝕄 := atZero (BI.own (ER (launchOf barCells ownCells allToks)))

/-- All the invariants, and that no barrier has left round 0. -/
def allInvs (κ : GSem nD τ sig → ℕ) : sProp 𝕄 :=
  iprop((bigSep (barCells ∪ ownCells) fun g => cellInv ER (rd (blockX m) (blockY m)) (κ g) g) ∗ bigSep barCells fun g => reached ER g 0)

instance allInvs_persistent (κ : GSem nD τ sig → ℕ) : BI.Persistent (allInvs m κ) := by unfold allInvs; infer_instance

theorem allInvs_at (κ : GSem nD τ sig → ℕ) {g : GSem nD τ sig} (hg : g ∈ barCells ∪ ownCells) :
    allInvs m κ ⊢ cellInv ER (rd (blockX m) (blockY m)) (κ g) g := by
  unfold allInvs
  iintro ⟨#H, -⟩
  iapply (show (bigSep (barCells ∪ ownCells) fun g => (cellInv ER (rd (blockX m) (blockY m)) (κ g) g : sProp 𝕄)) ⊢ cellInv ER (rd (blockX m) (blockY m)) (κ g) g
    from bigSep_elim hg) $$ H

theorem allInvs_reached (κ : GSem nD τ sig → ℕ) : allInvs m κ ⊢ (reached ER (barCell c) 0 : sProp 𝕄) := by
  unfold allInvs
  iintro ⟨-, #H⟩
  iapply (show (bigSep barCells fun g => (reached ER g 0 : sProp 𝕄)) ⊢ reached ER (barCell c) 0
    from bigSep_elim (Finset.mem_map_of_mem barEmb (Finset.mem_univ c))) $$ H

theorem allInvs_invs (κ : GSem nD τ sig → ℕ) : allInvs m κ ⊢ invs (blockX m) (blockY m) κ := by
  unfold invs
  iintro #H
  isplitr; · iapply (bigSep_intro_persistent (Φ := fun c : Dev nD => (cellInv ER (rd (blockX m) (blockY m)) (κ (barCell c)) (barCell c) : sProp 𝕄)) fun c _ => allInvs_at m κ (bar_mem c)) $$ H
  isplitr; · iapply (bigSep_intro_persistent (Φ := fun cp : Dev nD × Dev nD => (cellInv ER (rd (blockX m) (blockY m)) (κ (sendCell cp.1 cp.2)) (sendCell cp.1 cp.2) : sProp 𝕄)) fun cp _ => allInvs_at m κ (own_mem cp.1 (.inl cp.2))) $$ H
  isplitr; · iapply (bigSep_intro_persistent (Φ := fun cp : Dev nD × Dev nD => (cellInv ER (rd (blockX m) (blockY m)) (κ (recvCell cp.1 cp.2)) (recvCell cp.1 cp.2) : sProp 𝕄)) fun cp _ => allInvs_at m κ (own_mem cp.1 (.inr (.inl cp.2)))) $$ H
  isplitr; · iapply (bigSep_intro_persistent (Φ := fun ci : Dev nD × Fin 4 => (cellInv ER (rd (blockX m) (blockY m)) (κ (copyCell ci.1 ci.2)) (copyCell ci.1 ci.2) : sProp 𝕄)) fun ci _ => allInvs_at m κ (own_mem ci.1 (.inr (.inr ci.2)))) $$ H
  iapply (bigSep_intro_persistent (Φ := fun c : Dev nD => (reached ER (barCell c) 0 : sProp 𝕄)) fun c _ => allInvs_reached m c κ) $$ H

/-- The device's own share of the protocol, -/
def share : sProp 𝕄 :=
  iprop(atPos ER (barCell c) 0 ∅ 0 ∗ (bigSep Finset.univ fun k : Own => openTok ER (ownCell c k)) ∗ Toks (F := F) c)
/-- and the rest of what it has at launch. -/
def belongings : sProp 𝕄 :=
  iprop(StableHlo.held (c : Thread nD τ) (Pipeline.ucRefs τ sig) (V₀ m c) ∗ Creds (F := F) c ∗ owes (c : Thread nD τ) (O₀ c) ∅ ∗ ∃ r, prngReg c r)

theorem T₀_intro (κ : GSem nD τ sig → ℕ) : iprop(allInvs m κ ∗ (share (F := F) c ∗ belongings m c)) ⊢ T₀ m c := by
  unfold belongings T₀ Along Tk Ghost share
  iintro ⟨#HI, ⟨Ha, Ho, Ht⟩, Hh, Hc, HO, Hp⟩
  isplitl [Hh]; · iexact Hh
  isplitl [Ha Ho Ht Hc]
  · isplitr [Hc]
    · iexists κ
      isplitr; · iapply (allInvs_invs m κ) $$ HI
      isplitl [Ha]; · iexact Ha
      isplitl [Ho] <;> iassumption
    iexact Hc
  isplitl [Hp]; · iexact Hp
  iexists ∅; iexact HO

omit [FloatOps F] in
theorem bar_only (c : Dev nD) : (unscopedSems0 c : sProp 𝕄) = semVal (barCell c) 0 := by
  unfold unscopedSems0; rw [bigSep_eq_bigSepL_of_eq [SemLoc.reg barS] (by decide +kernel) (by decide)]; rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ dealt (F := F) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ dealt (F := F) c)
      ⊢ (iprop(belongings m c ∗ (semVal (barCell c) 0 ∗ dealt (F := F) c)) : sProp 𝕄) := by
    rw [show unscopedBufs c (fun b => m ((c : Thread nD τ).loc b)) = StableHlo.held (c : Thread nD τ) (Pipeline.ucRefs τ sig) (V₀ m c) from
      Pipeline.unscopedBufs_held c (V₀ m c), bar_only]
    unfold belongings
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => (bigSep Finset.univ fun k : Own => (openTok ER (ownCell c k) : sProp 𝕄) : sProp 𝕄)) :=
    Entails.of_eq (by rw [bigSep_map, bigSep_univ_prod]; rfl)
  have hsplit : (bigSep Finset.univ fun c : Dev nD => iprop(belongings m c ∗ (semVal (barCell c) 0 ∗ dealt (F := F) c)) : sProp 𝕄)
      ⊢ iprop(bigSep Finset.univ (belongings m) ∗ (bigSep Finset.univ fun c : Dev nD => (semVal (barCell c) 0 : sProp 𝕄))
        ∗ BI.own (ER (launchOf barCells ownCells allToks))) := by
    refine (Entails.of_eq (pairs Finset.univ (belongings m) _)).trans (sep_mono_right ((Entails.of_eq (pairs Finset.univ _ (dealt (F := F)))).trans (sep_mono_right ?_)))
    exact Entails.of_eq (atZero_all (F := F) _)
  have hjoin : iprop((bigSep Finset.univ fun c : Dev nD => (atPos ER (barCell c) 0 ∅ 0 : sProp 𝕄))
        ∗ (bigSep Finset.univ fun c : Dev nD => (bigSep Finset.univ fun k : Own => (openTok ER (ownCell c k) : sProp 𝕄) : sProp 𝕄))
        ∗ bigSep Finset.univ (fun c : Dev nD => Toks (F := F) c)) ⊢ (bigSep Finset.univ (share (F := F)) : sProp 𝕄) := by
    unfold share
    exact (sep_mono_right (Entails.of_eq (pairs Finset.univ _ _).symm)).trans (Entails.of_eq (pairs Finset.univ _ _).symm)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ dealt (F := F) c))
      ⊢ (bigSep Finset.univ fun c : Dev nD => iprop(belongings m c ∗ (semVal (barCell c) 0 ∗ dealt (F := F) c)) : sProp 𝕄) from bigSep_mono fun c _ => hcore c) $$ H
  ihave H2 := hsplit $$ H'
  icases H2 with ⟨HB, Hv, Hu⟩
  imod (Rounds.fund_launch ER (rd (blockX m) (blockY m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := allInvs m κ) (Φ := fun c => iprop(share (F := F) c ∗ belongings m c)) (Ψ := T₀ m) fun c _ => T₀_intro m c κ)
  isplitr
  · unfold allInvs
    isplitr; · iexact Hinv
    iexact Hr
  iapply (Entails.of_eq (pairs Finset.univ (share (F := F)) (belongings m)).symm)
  isplitr [HB]
  · iapply hjoin
    isplitl [Hat]; · iapply hat $$ Hat
    isplitl [Hopen]; · iapply hopen $$ Hopen
    iapply (toks_all (F := F)) $$ Htok
  · iexact HB

theorem unscoped_eq : ∀ sm : SemLoc sig, sm.isScoped .tc = false → sm = .reg barS := by decide +kernel

abbrev Kept : Finset (DevRef τ sig) := {Proc.devRef .tc main_arg0, Proc.devRef .tc main_arg1, Proc.devRef .tc main_arg2, Proc.devRef .tc main_v3}
theorem kept_sub : Kept ⊆ Pipeline.ucRefs τ sig := by decide +kernel

theorem held_kept (W : Valuation τ sig (Elt F)) : (StableHlo.held (c : Thread nD τ) (Pipeline.ucRefs τ sig) W : sProp 𝕄)
    ⊢ iprop(pt c main_arg0 (W main_arg0) ∗ pt c main_arg1 (W main_arg1) ∗ pt c main_arg2 (W main_arg2) ∗ pt c main_v3 (W main_v3)) := by
  rw [StableHlo.held_sub_split _ kept_sub W]
  have h : (StableHlo.held (c : Thread nD τ) Kept W : sProp 𝕄)
      = iprop(pt c main_arg0 (W main_arg0) ∗ pt c main_arg1 (W main_arg1) ∗ pt c main_arg2 (W main_arg2) ∗ pt c main_v3 (W main_v3)) := by
    unfold StableHlo.held
    rw [bigSep_insert (by decide), bigSep_insert (by decide), bigSep_insert (by decide), bigSep_singleton]
    rfl
  rw [h]
  iintro ⟨H, -⟩; iexact H

set_option backward.isDefEq.respectTransparency.types false in
/-- Every run ends; the arguments are as they were, the result is the normalised block, and all counters are at zero. -/
theorem run_main : θ_run defs (onTc (τ := τ) (main (F := F))) (s₀ m ρ)
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v3) = blockY m c) ∧ r.2.sem = fun _ => 0) :=
  Pipeline.θ_run_regions_kit_sems (pcfgs (F := F)) adm (pdats m) () cells_inj EP defs₀ 𝒱₀ L lv m ρ main (segs m)
    (fun c Q => by rw [main_segs adm (pdats m) () 𝒱₀ L lv (seg m) (reg m) rfl c]; rfl)
    (by simp only [segs, Pipeline.Seg.pipes_host, Pipeline.Seg.pipes_region, Pipeline.Seg.pipes_nil]; decide)
    (O₀ := O₀) (hL := L_of_ne) (G := dealt (F := F)) (u₀ := u₀ (F := F))
    (hu₀ := by
      unfold u₀ dealt
      iintro Hu
      ihave H := (ownU_pair _ _) $$ Hu
      icases H with ⟨HP, HX⟩
      imodintro
      isplitl [HP]; · iexact HP
      rw [atZero_all (F := F)]; iexact HX)
    (T₀ := T₀ m) (Tₙ := Tₙ m)
    (hch := ⟨fun c => .rfl, fun c => reg_pre m c, fun c => reg_post m c⟩)
    (hinit := init m ρ)
    (QY := fun c s => ((s.mem ((c : Thread nD τ).loc main_arg0) = V₂ m c main_arg0 ∧ s.mem ((c : Thread nD τ).loc main_arg1) = V₂ m c main_arg1
        ∧ s.mem ((c : Thread nD τ).loc main_arg2) = V₂ m c main_arg2) ∧ s.mem ((c : Thread nD τ).loc main_v3) = V₂ m c main_v3)
      ∧ s.sem (barCell c) = 0)
    (hfin := fun c s' => by
      dsimp only [Tₙ]
      unfold Yk
      iintro ⟨⟨Hh, Hb⟩, HSI⟩
      ihave H := (held_kept (F := F) c (V₂ m c)) $$ Hh
      icases H with ⟨H0, H1, H2, H3⟩
      icombine HSI H0 gives %h0
      icombine HSI H1 gives %h1
      icombine HSI H2 gives %h2
      icombine HSI H3 gives %h3
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ h3⟩, by simpa using hb⟩
      iexact HSI)
    (hQ := fun s h hs => ⟨fun c => by
        obtain ⟨⟨⟨h0, h1, h2⟩, h3⟩, -⟩ := h c
        rw [V₂_of m c (Proc.devRef .tc main_arg0) (by decide)] at h0
        rw [V₂_of m c (Proc.devRef .tc main_arg1) (by decide)] at h1
        rw [V₂_of m c (Proc.devRef .tc main_arg2) (by decide)] at h2
        rw [V₂_v3] at h3
        exact ⟨⟨h0.trans (V_main_arg0 m c), h1.trans (V_main_arg1 m c), h2.trans (V_main_arg2 m c)⟩, h3⟩,
      sem_eq_zero hs fun c sm hsm => by
        obtain rfl := unscoped_eq sm hsm
        exact (h c).2⟩)

end Cert.KernelIdeal.Talk

end
-- ==== Proof.Frames.lean ====
/-
  The frame claims: every execution of the kernel, as printed and idealized, and of the reference ends, with the
  arguments as they were and every semaphore at zero.
-/
module

public import proofs.«01_k».proof.Defs
public import proofs.«01_k».proof.Proof.Run
public import proofs.«01_k».proof.Proof.RunIdeal
public import proofs.«01_k».proof.Proof.Gen.ReferenceIdeal.Run

@[expose] public section

noncomputable section

namespace Cert.Proof

open Idealize.ShloMosaic Idealize.SL.Sem

/-- The kernel as printed. -/
theorem kernel_frame : Cert.quiescent_Kernel := by
  intro m g _
  exact (θ_run _ _ _).mono (fun _ h => ⟨fun c => (h.1 c).1, h.2⟩) (Cert.Kernel.Talk.run_main (F := Bits) m g)

/-- The kernel over the extended reals. -/
theorem ideal_frame : Cert.quiescent_KernelIdeal := by
  intro m g _
  exact (θ_run _ _ _).mono (fun _ h => ⟨fun c => (h.1 c).1, h.2⟩) (Cert.KernelIdeal.Talk.run_main (F := Ideal) m g)

/-- The reference over the extended reals; it has no semaphore at all. -/
theorem reference_frame : Cert.quiescent_ReferenceIdeal := by
  intro m g _
  exact (θ_run _ _ _).mono (fun r h => ⟨fun c => (h c).2, sem_eq_zero_of_no_sems (by decide) r.2⟩)
    (Cert.ReferenceIdeal.Value.run (F := Ideal) m g)

end Cert.Proof

end
-- ==== Proof.Norm.lean ====
/-
  The arithmetic of the normalisation, over the extended reals and free of any program: a row of finite numbers is
  normalised with the mean of its squares less the square of its mean, or with the mean of the squared differences from
  its mean; the weight is finite, the offset is any extended real; both ways give the same number.
-/
module

public import Idealize.ShloMosaic.PureOps.Ideal.Laws
public import Mathlib.Algebra.BigOperators.Field
public import Mathlib.Algebra.Order.BigOperators.Ring.Finset
public import Mathlib.Tactic.FieldSimp
public import Mathlib.Tactic.Linarith
public import Mathlib.Tactic.Ring

@[expose] public section

noncomputable section

namespace Cert.Norm

open Idealize.ShloMosaic
open scoped BigOperators

/-- The number of columns and the small number under the root, as the two programs write them. -/
def cnt : EReal := Ideal.ofBits .f32 0x46000000#32
def eps : EReal := Ideal.ofBits .f32 0x3727C5AC#32

/-- A positive normal word's number, from its exponent and fraction fields. -/
theorem normal (w : BitVec 32) (ex fr : Nat) (hn : w.extractLsb' 31 1 = 0#1) (he : (w.extractLsb' 23 8).toNat = ex)
    (hf : (w.extractLsb' 0 23).toNat = fr) (h0 : ex ≠ 0) (h1 : ex ≠ 255) :
    Ideal.ofBits .f32 w = (((2 ^ 23 + fr : Nat) * (2 : ℝ) ^ ((ex : Int) - 127 - 23) : ℝ) : EReal) := by
  show Ideal.ieee 8 23 w = _
  unfold Ideal.ieee
  simp only [he, hf, show (8 : Nat) + 23 = 31 from rfl, hn]
  rw [if_neg (show ¬ ex = 2 ^ 8 - 1 from h1), if_neg h0]
  norm_num

theorem cnt_eq : cnt = ((8192 : ℝ) : EReal) := by
  unfold cnt
  rw [normal 0x46000000#32 140 0 (by decide) (by decide) (by decide) (by decide) (by decide)]
  norm_num

theorem eps_pos : ∃ e : ℝ, 0 < e ∧ eps = (e : EReal) :=
  ⟨_, by positivity, normal 0x3727C5AC#32 110 2606508 (by decide) (by decide) (by decide) (by decide) (by decide)⟩

/-- A sum of real numbers, taken among the extended reals. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A quotient by the number of columns. -/
theorem div_cnt (r : ℝ) : Ideal.div (r : EReal) cnt = ((r / 8192 : ℝ) : EReal) := by
  rw [cnt_eq, Ideal.div_coe (by norm_num), ← EReal.coe_mul]
  congr 1
  ring

/-- One element as the kernel makes it: from the row's sum `S`, its sum of squares `Q`, the element, weight and offset. -/
def viaSquares (S Q x g b : EReal) : EReal :=
  x * g * Ideal.rsqrt (Ideal.div Q cnt - Ideal.div S cnt * Ideal.div S cnt + eps)
    + (b - Ideal.div S cnt * Ideal.rsqrt (Ideal.div Q cnt - Ideal.div S cnt * Ideal.div S cnt + eps) * g)

/-- One element as the layer norm defines it: from the row's sum `S` and its sum `D` of squared differences. -/
def viaDifferences (S D x g b : EReal) : EReal :=
  Ideal.div (g * (x - Ideal.div S cnt)) (Ideal.sqrt (Ideal.div D cnt + eps)) + b

/-- The mean of the squared differences is the mean of the squares less the square of the mean. -/
theorem variance (x : Fin 8192 → ℝ) :
    (∑ k, (x k - (∑ k, x k) / 8192) * (x k - (∑ k, x k) / 8192)) / 8192
      = (∑ k, x k * x k) / 8192 - (∑ k, x k) / 8192 * ((∑ k, x k) / 8192) := by
  have h : ∀ μ : ℝ, ∑ k, (x k - μ) * (x k - μ) = (∑ k, x k * x k) - 2 * μ * (∑ k, x k) + 8192 * (μ * μ) := by
    intro μ
    have e : ∀ k, (x k - μ) * (x k - μ) = x k * x k - 2 * μ * x k + μ * μ := fun k => by ring
    rw [Finset.sum_congr rfl fun k _ => e k, Finset.sum_add_distrib, Finset.sum_sub_distrib, ← Finset.mul_sum,
      Finset.sum_const, Finset.card_univ, Fintype.card_fin, nsmul_eq_mul]
    norm_num
  rw [h]
  ring

/-- Both ways agree on real numbers, for any offset. -/
theorem real_agree (x : Fin 8192 → ℝ) (g : ℝ) (b : EReal) (j : Fin 8192) :
    viaSquares ((∑ k, x k : ℝ) : EReal) ((∑ k, x k * x k : ℝ) : EReal) (x j) g b
      = viaDifferences ((∑ k, x k : ℝ) : EReal)
          ((∑ k, (x k - (∑ k, x k) / 8192) * (x k - (∑ k, x k) / 8192) : ℝ) : EReal) (x j) g b := by
  obtain ⟨e, he, hE⟩ := eps_pos
  unfold viaSquares viaDifferences
  rw [div_cnt, div_cnt, div_cnt, variance x, hE]
  have hv : 0 ≤ (∑ k, x k * x k) / 8192 - (∑ k, x k) / 8192 * ((∑ k, x k) / 8192) := by
    rw [← variance x]
    exact div_nonneg (Finset.sum_nonneg fun k _ => mul_self_nonneg _) (by norm_num)
  generalize (∑ k, x k) / 8192 = μ at hv ⊢
  generalize (∑ k, x k * x k) / 8192 = q at hv ⊢
  have hw : 0 < q - μ * μ + e := by linarith
  have hs : 0 < Real.sqrt (q - μ * μ + e) := Real.sqrt_pos.2 hw
  rw [← EReal.coe_mul, ← EReal.coe_mul, ← EReal.coe_sub, ← EReal.coe_add]
  rw [Ideal.rsqrt_coe, Ideal.sqrt_coe]
  simp only [if_neg (not_lt.2 hw.le), if_neg hw.ne']
  rw [← EReal.coe_sub, ← EReal.coe_mul, Ideal.div_coe hs.ne', ← EReal.coe_mul, ← EReal.coe_mul, ← EReal.coe_mul,
    ← EReal.coe_mul]
  rw [sub_eq_add_neg b, ← EReal.coe_neg, add_left_comm, ← EReal.coe_add, add_comm b]
  congr 2
  field_simp
  ring

/-- Both ways agree on a row of finite numbers with a finite weight. -/
theorem agree (X : Fin 8192 → EReal) (hX : ∀ k, ∃ r : ℝ, X k = r) (g b : EReal) (hg : ∃ r : ℝ, g = r) (j : Fin 8192) :
    viaSquares (∑ k, X k) (∑ k, X k * X k) (X j) g b
      = viaDifferences (∑ k, X k)
          (∑ k, (X k - Ideal.div (∑ k, X k) cnt) * (X k - Ideal.div (∑ k, X k) cnt)) (X j) g b := by
  choose x hx using hX
  obtain ⟨g', rfl⟩ := hg
  simp only [hx]
  rw [sum_coe, div_cnt]
  simp only [← EReal.coe_mul, ← EReal.coe_sub]
  rw [sum_coe, sum_coe]
  exact real_agree x g' b j

end Cert.Norm

end
-- ==== Proof.ValueIdeal.lean ====
/-
  The result block of one device over the extended reals, element by element: `Talk.outOf` at row `r` and column `l` is
  `Norm.viaSquares` of the sum and the sum of squares of row `r` over all devices' blocks.
-/
module

public import proofs.«01_k».proof.Proof.TalkIdeal
public import proofs.«01_k».proof.Proof.Norm
public import Idealize.ShloMosaic.Lib.IdealHost
public import Idealize.ShloMosaic.Lib.ValueLayout
public import Idealize.ShloMosaic.Lib.ValueLayoutCasts

@[expose] public section

noncomputable section

namespace Cert.KernelIdeal.Talk

open Idealize.ShloMosaic Idealize.ShloMosaic.TcCoe Idealize.ShloMosaic.ValueIdx Cert.KernelIdeal Cert.KernelIdeal.Gen
open scoped BigOperators

/-! ## Indices -/

theorem ixH_eq (r : Fin 384) (l : Fin 512) : ixH r l = ix2 r l := by
  funext a; match a with | ⟨0, _⟩ => rfl | ⟨1, _⟩ => rfl

/-- A row of the first, and of the last, half block among all rows. -/
abbrev up (r : Fin 384) : Fin 768 := ⟨r.val, by omega⟩
abbrev dn (r : Fin 384) : Fin 768 := ⟨384 + r.val, by omega⟩

theorem loA_apply (x : XBuf Ideal) (r : Fin 384) (l : Fin 512) : loA x (ix2 r l) = x (ix2 (up r) l) := by
  refine congrArg x (funext fun a => Fin.ext ?_)
  match a with
  | ⟨0, _⟩ => show 0 + 1 * r.val = r.val; omega
  | ⟨1, _⟩ => show 0 + 1 * l.val = l.val; omega

theorem loB_apply (x : XBuf Ideal) (r : Fin 384) (l : Fin 512) : loB x (ix2 r l) = x (ix2 (dn r) l) := by
  refine congrArg x (funext fun a => Fin.ext ?_)
  match a with
  | ⟨0, _⟩ => show 384 + 1 * r.val = 384 + r.val; omega
  | ⟨1, _⟩ => show 0 + 1 * l.val = l.val; omega

/-! ## The statistics -/

/-- A half block's row sums as the kernel stores them. -/
theorem row_sum (v : FVec Ideal S384x512 .f32) (r : Fin 384) :
    shapeCast S1x1x384 (multiReduction .add [1] S384 v 0x00000000#32 reduces_S384x512_S384 (.inl rfl) rfl)
      shapeCasts_S384_S1x1x384 (ixR r) = ∑ k : Fin 512, v (ix2 r k) := by
  rw [shapeCast_apply _ _ (ixR r) (ix1 r) (by
    rw [Shape.rowMajor_val_three, Shape.rowMajor_val_one]
    show r.val = (0 * 1 + 0) * 384 + r.val
    omega)]
  refine (Ideal.multiReduction_add_single v _ reduces_S384x512_S384 (.inl rfl) rfl (ix1 r)).trans
    (Finset.sum_congr rfl fun k _ => congrArg v (funext fun a => ?_))
  match a with
  | ⟨0, _⟩ => rfl
  | ⟨1, _⟩ => rfl

variable (X : Dev nD → XBuf Ideal)

/-- The stored sum, and the stored sum of squares, of one row of one device's block. -/
theorem stats_sum (s : Fin 16) (r : Fin 768) : statsOf X (ix3 s (0 : Fin 2) r) = ∑ k : Fin 512, X s (ix2 r k) := by
  unfold statsOf
  split
  · next h =>
    refine (if_pos rfl).trans ?_
    refine (row_sum _ _).trans (Finset.sum_congr rfl fun k _ => ?_)
    exact loA_apply _ _ _
  · next h =>
    refine (if_pos rfl).trans ?_
    refine (row_sum _ _).trans (Finset.sum_congr rfl fun k _ => ?_)
    refine (loB_apply _ _ _).trans (congrArg (fun q => X s (ix2 q k)) (Fin.ext ?_))
    have h' : ¬ r.val < 384 := h
    show 384 + (r.val - 384) = r.val
    omega

theorem stats_squares (s : Fin 16) (r : Fin 768) :
    statsOf X (ix3 s (1 : Fin 2) r) = ∑ k : Fin 512, X s (ix2 r k) * X s (ix2 r k) := by
  unfold statsOf
  split
  · next h =>
    refine (if_neg Nat.one_ne_zero).trans ?_
    refine (row_sum _ _).trans (Finset.sum_congr rfl fun k _ => ?_)
    rw [mulf_apply]
    show loA (X s) (ix2 _ k) * loA (X s) (ix2 _ k) = _
    rw [loA_apply]
  · next h =>
    refine (if_neg Nat.one_ne_zero).trans ?_
    refine (row_sum _ _).trans (Finset.sum_congr rfl fun k _ => ?_)
    have e : dn ⟨r.val - 384, upper_lt r⟩ = r := Fin.ext (by
      have h' : ¬ r.val < 384 := h
      show 384 + (r.val - 384) = r.val
      omega)
    rw [mulf_apply]
    show loB (X s) (ix2 _ k) * loB (X s) (ix2 _ k) = _
    rw [loB_apply, e]

/-- The statistics summed over the devices. -/
theorem total (v : FVec Ideal S16x2x768 .f32) (t : Fin 2) (r : Fin 768) :
    k0_pay7 v (ix2 t r) = ∑ s : Fin 16, v (ix3 s t r) := by
  unfold k0_pay7
  refine (Ideal.multiReduction_add_single v _ reduces_S16x2x768_S2x768 (.inl rfl) rfl (ix2 t r)).trans
    (Finset.sum_congr rfl fun k _ => congrArg v (funext fun a => ?_))
  match a with
  | ⟨0, _⟩ => rfl
  | ⟨1, _⟩ => rfl
  | ⟨2, _⟩ => rfl

/-! ## The rows' factors -/

variable (v : FVec Ideal S16x2x768 .f32)

/-- One row of the pair of sums, as a vector. -/
theorem pick_apply (w : FVec Ideal S2x768 .f32) (t : Fin 2) (h : S2x768.Slices ![t.val, 0] S1x768) (r : Fin 768) :
    shapeCast S768 (extractStridedSlice S1x768 ![t.val, 0] w h) shapeCasts_S1x768_S768 (ix1 r) = w (ix2 t r) := by
  refine (shapeCast_1a_a_apply _ _ r).trans (extractStridedSlice_apply _ w h _ (ix2 t r) fun a => ?_)
  match a with
  | ⟨0, _⟩ => rfl
  | ⟨1, _⟩ => show r.val = 0 + r.val; omega

/-- The sum of row `r` (`t = 0`), or of its squares (`t = 1`), over all devices. -/
abbrev tot (t : Fin 2) (r : Fin 768) : EReal := k0_pay7 (F := Ideal) v (ix2 t r)

/-- The row's mean. -/
theorem mean_apply (r : Fin 768) :
    k0_pay10 (k0_pay8 v) (k0_pay9 (F := Ideal)) (ix1 r) = Ideal.div (tot v 0 r) Norm.cnt := by
  unfold k0_pay10 k0_pay8
  refine (divf_apply _ _ _).trans (congrArg (fun q => Ideal.div q Norm.cnt) ?_)
  exact pick_apply (k0_pay7 v) 0 _ r

/-- The reciprocal of the root of the row's variance. -/
theorem inv_apply (r : Fin 768) :
    k0_pay11 (k0_pay7 v) (k0_pay8 v) (k0_pay9 (F := Ideal)) (ix1 r)
      = Ideal.rsqrt (Ideal.div (tot v 1 r) Norm.cnt
          - Ideal.div (tot v 0 r) Norm.cnt * Ideal.div (tot v 0 r) Norm.cnt
          + Norm.eps) := by
  unfold k0_pay11
  show Ideal.rsqrt (Ideal.div (shapeCast S768 _ _ (ix1 r)) Norm.cnt
    - k0_pay10 (k0_pay8 v) (k0_pay9 (F := Ideal)) (ix1 r) * k0_pay10 (k0_pay8 v) (k0_pay9 (F := Ideal)) (ix1 r)
    + Norm.eps) = _
  rw [mean_apply]
  exact congrArg (fun q => Ideal.rsqrt (Ideal.div q Norm.cnt
    - Ideal.div (tot v 0 r) Norm.cnt * Ideal.div (tot v 0 r) Norm.cnt + Norm.eps)) (pick_apply (k0_pay7 v) 1 _ r)

/-- A stretch of a vector of rows, spread over the columns. -/
theorem spread_apply (o : Nat) (w : FVec Ideal S768 .f32) (h : S768.Slices ![o] S384) (p : Fin 384) (r : Fin 768)
    (hr : r.val = o + p.val) (l : Fin 512) :
    broadcastTo S384x512 (shapeCast S384x1 (extractStridedSlice S384 ![o] w h) shapeCasts_S384_S384x1)
      broadcasts_S384x1_S384x512 (ix2 p l) = w (ix1 r) := by
  refine (broadcastTo_apply _ _ (ix2 p l) (ix2 p (0 : Fin 1)) fun a => ?_).trans
    ((shapeCast_a_a1_apply _ _ p 0).trans (extractStridedSlice_apply _ w h _ (ix1 r) fun a => ?_))
  · match a with
    | ⟨0, _⟩ => rfl
    | ⟨1, _⟩ => rfl
  · match a with
    | ⟨0, _⟩ => exact hr

/-- A row of numbers read as a vector, made a row again and repeated over `n` rows. -/
theorem repeat_apply {n : Nat} (g : GBuf Ideal) (h : S1x512.Broadcasts ⟨2, ![n, 512]⟩) (p : Fin n) (l : Fin 512) :
    broadcastTo ⟨2, ![n, 512]⟩ (shapeCast S1x512 (shapeCast S512 g shapeCasts_S1x512_S512) shapeCasts_S512_S1x512) h
      (ix2 p l) = g (ix2 (0 : Fin 1) l) :=
  (broadcastTo_1b_ab_apply _ _ p l).trans ((shapeCast_a_1a_apply _ _ 0 l).trans (shapeCast_1a_a_apply _ _ l))

/-- The block scaled by the weights. -/
theorem scaled_apply (x : XBuf Ideal) (g : GBuf Ideal) (r : Fin 768) (l : Fin 512) :
    scaled x g (ix2 r l) = x (ix2 r l) * g (ix2 (0 : Fin 1) l) := by
  unfold scaled k0_pay6
  rw [shapeCast_self]
  exact congrArg (x (ix2 r l) * ·) (repeat_apply g _ r l)

/-! ## The result -/

/-- What the kernel makes of one element, from the two sums of its row. -/
abbrev elt (r : Fin 768) (x g b : EReal) : EReal :=
  Norm.viaSquares (tot v 0 r) (tot v 1 r) x g b

theorem upper_apply (x : XBuf Ideal) (g b : GBuf Ideal) (p : Fin 384) (l : Fin 512) :
    k0_pay14 (k0_pay5 g) (k0_pay7 v) (k0_pay8 v) k0_pay9 b (loA (scaled x g)) (ix2 p l)
      = elt v (up p) (x (ix2 (up p) l)) (g (ix2 (0 : Fin 1) l)) (b (ix2 (0 : Fin 1) l)) := by
  have hr : (up p).val = 0 + p.val := (Nat.zero_add _).symm
  unfold k0_pay14 k0_pay5 k0_pay13
  rw [shapeCast_self]
  show loA (scaled x g) (ix2 p l) * broadcastTo S384x512 _ _ (ix2 p l)
    + (broadcastTo S384x512 _ _ (ix2 p l) - broadcastTo S384x512 _ _ (ix2 p l) * broadcastTo S384x512 _ _ (ix2 p l)) = _
  rw [spread_apply 0 _ _ p (up p) hr l, spread_apply 0 _ _ p (up p) hr l, repeat_apply g, repeat_apply b, loA_apply,
    scaled_apply]
  unfold k0_pay12
  rw [mulf_apply, inv_apply, mean_apply]
  rfl

theorem lower_apply (x : XBuf Ideal) (g b : GBuf Ideal) (p : Fin 384) (l : Fin 512) :
    k0_pay18 (k0_pay13 b) (k0_pay15 (k0_pay7 v) (k0_pay8 v) k0_pay9)
      (k0_pay16 (k0_pay7 v) (k0_pay8 v) k0_pay9 (loB (scaled x g))) (k0_pay17 (k0_pay5 g)) (ix2 p l)
      = elt v (dn p) (x (ix2 (dn p) l)) (g (ix2 (0 : Fin 1) l)) (b (ix2 (0 : Fin 1) l)) := by
  unfold k0_pay18 k0_pay15 k0_pay16 k0_pay17 k0_pay5 k0_pay13
  rw [shapeCast_self]
  show loB (scaled x g) (ix2 p l) * broadcastTo S384x512 _ _ (ix2 p l)
    + (broadcastTo S384x512 _ _ (ix2 p l) - broadcastTo S384x512 _ _ (ix2 p l) * broadcastTo S384x512 _ _ (ix2 p l)) = _
  rw [spread_apply 384 _ _ p (dn p) rfl l, spread_apply 384 _ _ p (dn p) rfl l, repeat_apply g, repeat_apply b, loB_apply,
    scaled_apply]
  unfold k0_pay12
  rw [mulf_apply, inv_apply, mean_apply]
  rfl

/-- Every element of one device's result block, from the sums of its row over all devices' blocks. -/
theorem outOf_apply (x : XBuf Ideal) (g b : GBuf Ideal) (r : Fin 768) (l : Fin 512) :
    outOf X x g b (ix2 r l)
      = Norm.viaSquares (∑ s : Fin 16, ∑ k : Fin 512, X s (ix2 r k))
          (∑ s : Fin 16, ∑ k : Fin 512, X s (ix2 r k) * X s (ix2 r k))
          (x (ix2 r l)) (g (ix2 (0 : Fin 1) l)) (b (ix2 (0 : Fin 1) l)) := by
  have e : outOf X x g b (ix2 r l)
      = elt (statsOf X) r (x (ix2 r l)) (g (ix2 (0 : Fin 1) l)) (b (ix2 (0 : Fin 1) l)) := by
    unfold outOf
    split
    · next h =>
      show k0_pay14 _ _ _ _ _ _ (ixH _ l) = _
      rw [ixH_eq, upper_apply]
    · next h =>
      have h' : ¬ r.val < 384 := h
      have d : dn ⟨r.val - 384, upper_lt r⟩ = r := Fin.ext (by show 384 + (r.val - 384) = r.val; omega)
      show k0_pay18 _ _ _ _ (ixH ⟨r.val - 384, _⟩ l) = _
      rw [ixH_eq, lower_apply, d]
  have h0 : tot (statsOf X) 0 r = ∑ s : Fin 16, ∑ k : Fin 512, X s (ix2 r k) :=
    (total (statsOf X) 0 r).trans (Finset.sum_congr rfl fun s _ => stats_sum X s r)
  have h1 : tot (statsOf X) 1 r = ∑ s : Fin 16, ∑ k : Fin 512, X s (ix2 r k) * X s (ix2 r k) :=
    (total (statsOf X) 1 r).trans (Finset.sum_congr rfl fun s _ => stats_squares X s r)
  rw [e]
  show Norm.viaSquares (tot (statsOf X) 0 r) (tot (statsOf X) 1 r) _ _ _ = _
  rw [h0, h1]

end Cert.KernelIdeal.Talk

end
-- ==== Proof.RefValue.lean ====
/-
  The reference's result over the extended reals, element by element: at row `r` and column `j` it is
  `Norm.viaDifferences` of the row's sum and of the sum of its squared differences from its mean.
-/
module

public import proofs.«01_k».proof.Proof.Gen.ReferenceIdeal.Run
public import proofs.«01_k».proof.Proof.Norm
public import Idealize.ShloMosaic.Lib.IdealHost
public import Idealize.ShloMosaic.Lib.ValueLayout
public import Idealize.ShloMosaic.Lib.ValueLayoutCasts
public import Idealize.ShloMosaic.Lib.KernelVsHost

@[expose] public section

noncomputable section

namespace Cert.ReferenceIdeal.Rows

open Idealize.ShloMosaic Idealize.ShloMosaic.TcCoe Idealize.ShloMosaic.ValueIdx Cert.ReferenceIdeal Cert.ReferenceIdeal.Gen
open Idealize.SL.Sem
open scoped BigOperators

/-! ## The reference's steps -/

abbrev Arr := FVec Ideal S768x8192 .f32
abbrev Row := FVec Ideal S8192 .f32
abbrev Col := FVec Ideal S768x1 .f32

/-- A number repeated down a column; a column repeated over the array; a row repeated over the array. -/
def down (w : FVec Ideal S_ .f32) : Col := broadcastInDim S768x1 ![] bcast_S_S768x1 w
def spread (w : Col) : Arr := broadcastInDim S768x8192 ![0, 1] bcast_S768x1_S768x8192_0_1 w
def stack (g : Row) : Arr :=
  broadcastInDim S768x8192 ![0, 1] bcast_S1x8192_S768x8192_0_1 (broadcastInDim S1x8192 ![1] bcast_S8192_S1x8192_1 g)

/-- The sums of the rows, as a column. -/
def sums (x : Arr) : Col := broadcastInDim S768x1 ![0] bcast_S768_S768x1_0
  (Host.reduceAdd x (constant (F := Ideal) S_ .f32 0x00000000#32) reducesTo_S768x8192_S768_d1 h_S_)

/-- The divisor of the variance, the number of columns less zero. -/
def count : FVec Ideal S_ .f32 := subf (constant S_ .f32 0x46000000#32) (sitofp .f32 (constantI S_ 32 0#32))

def mean (x : Arr) : Col := Host.divf (sums x) (down (constant S_ .f32 0x46000000#32))
def diff (x : Arr) : Arr := subf x (spread (mean x))
def variance (x : Arr) : Col :=
  select (broadcastInDim S768x1 ![] bcast_S_S768x1 (cmpf .ogt count (constant S_ .f32 0x00000000#32)))
    (Host.divf (sums (mulf (diff x) (diff x))) (down count)) (down (id (constant S_ .f32 0x7FC00000#32)))
def root (x : Arr) : Col := Host.sqrt (addf (variance x) (down (constant S_ .f32 0x3727C5AC#32)))
def result (x : Arr) (g b : Row) : Arr := addf (Host.divf (mulf (stack g) (diff x)) (spread (root x))) (stack b)

/-! ## Each step at an index -/

theorem down_apply (w : FVec Ideal S_ .f32) (r : Fin 768) : down w (ix2 r (0 : Fin 1)) = w ix0 :=
  broadcastInDim_scalar_apply _ _ _

theorem spread_apply (w : Col) (r : Fin 768) (j : Fin 8192) : spread w (ix2 r j) = w (ix2 r (0 : Fin 1)) :=
  broadcastInDim_apply _ _ w _ (ix2 r (0 : Fin 1)) fun a => by
    match a with
    | ⟨0, _⟩ => rfl
    | ⟨1, _⟩ => rfl

theorem stack_apply (g : Row) (r : Fin 768) (j : Fin 8192) : stack g (ix2 r j) = g (ix1 j) :=
  (broadcastInDim_apply _ _ _ _ (ix2 (0 : Fin 1) j) fun a => by
    match a with
    | ⟨0, _⟩ => rfl
    | ⟨1, _⟩ => rfl).trans
  (broadcastInDim_apply _ _ g _ (ix1 j) fun a => by
    match a with
    | ⟨0, _⟩ => rfl)

theorem reduces_rows : S768x8192.Reduces [1] S768 := by decide

theorem sums_apply (x : Arr) (r : Fin 768) : sums x (ix2 r (0 : Fin 1)) = ∑ k : Fin 8192, x (ix2 r k) := by
  refine (broadcastInDim_apply _ _ _ _ (ix1 r) fun a => by
    match a with
    | ⟨0, _⟩ => rfl).trans ?_
  refine (hostReduceAdd_apply x _ _ _ _).trans ((Ideal.hostReduceAdd_single _ reduces_rows x _ (ix1 r)).trans ?_)
  have h0 : (constant (F := Ideal) S_ .f32 0x00000000#32 : FVec Ideal S_ .f32) (Shape.Idx.first h_S_) = (0 : EReal) :=
    Ideal.ofBits_zero_f32
  rw [h0, zero_add]
  refine Finset.sum_congr rfl fun k _ => congrArg x (funext fun a => ?_)
  match a with
  | ⟨0, _⟩ => rfl
  | ⟨1, _⟩ => rfl

theorem count_apply : count ix0 = Norm.cnt := by
  show Ideal.ofBits .f32 0x46000000#32 - (Scalar.sitofp .f32 0#32 : Ideal .f32) = Norm.cnt
  rw [sitofp_zero]
  exact sub_zero Norm.cnt

theorem mean_apply (x : Arr) (r : Fin 768) :
    mean x (ix2 r (0 : Fin 1)) = Ideal.div (∑ k : Fin 8192, x (ix2 r k)) Norm.cnt := by
  show Ideal.div (sums x (ix2 r 0)) (down (constant S_ .f32 0x46000000#32) (ix2 r 0)) = _
  rw [sums_apply, down_apply]
  rfl

theorem diff_apply (x : Arr) (r : Fin 768) (j : Fin 8192) :
    diff x (ix2 r j) = x (ix2 r j) - Ideal.div (∑ k : Fin 8192, x (ix2 r k)) Norm.cnt := by
  show x (ix2 r j) - spread (mean x) (ix2 r j) = _
  rw [spread_apply, mean_apply]

/-- The number of columns is more than zero, so the quotient is what the variance is. -/
theorem variance_apply (x : Arr) (r : Fin 768) :
    variance x (ix2 r (0 : Fin 1))
      = Ideal.div (∑ k : Fin 8192, (x (ix2 r k) - Ideal.div (∑ k : Fin 8192, x (ix2 r k)) Norm.cnt)
          * (x (ix2 r k) - Ideal.div (∑ k : Fin 8192, x (ix2 r k)) Norm.cnt)) Norm.cnt := by
  have hc : (broadcastInDim S768x1 ![] bcast_S_S768x1 (cmpf .ogt count (constant S_ .f32 0x00000000#32)) : IVec S768x1 1)
      (ix2 r (0 : Fin 1)) = 1#1 := by
    refine (broadcastInDim_scalar_apply _ _ _).trans ?_
    show Ideal.cmp .ogt (count ix0) (Ideal.ofBits .f32 0x00000000#32) = 1#1
    rw [count_apply, Ideal.ofBits_zero_f32, Norm.cnt_eq]
    show BitVec.ofBool (decide ((0 : EReal) < ((8192 : ℝ) : EReal))) = 1#1
    rw [decide_eq_true (EReal.coe_pos.2 (by norm_num))]
    rfl
  refine (select_apply _ _ _ _).trans ?_
  rw [hc]
  refine (select_one _ _).trans ?_
  show Ideal.div (sums (mulf (diff x) (diff x)) (ix2 r 0)) (down count (ix2 r 0)) = _
  rw [sums_apply, down_apply, count_apply]
  refine congrArg (fun q => Ideal.div q Norm.cnt) (Finset.sum_congr rfl fun k _ => ?_)
  exact (mulf_apply _ _ _).trans (congrArg (fun q : EReal => q * q) (diff_apply x r k))

theorem result_apply (x : Arr) (g b : Row) (r : Fin 768) (j : Fin 8192) :
    result x g b (ix2 r j)
      = Norm.viaDifferences (∑ k : Fin 8192, x (ix2 r k))
          (∑ k : Fin 8192, (x (ix2 r k) - Ideal.div (∑ k : Fin 8192, x (ix2 r k)) Norm.cnt)
            * (x (ix2 r k) - Ideal.div (∑ k : Fin 8192, x (ix2 r k)) Norm.cnt))
          (x (ix2 r j)) (g (ix1 j)) (b (ix1 j)) := by
  show Ideal.div (stack g (ix2 r j) * diff x (ix2 r j)) (spread (root x) (ix2 r j)) + stack b (ix2 r j) = _
  rw [stack_apply, stack_apply, diff_apply, spread_apply]
  show Ideal.div _ (Ideal.sqrt (variance x (ix2 r 0) + down (constant S_ .f32 0x3727C5AC#32) (ix2 r 0))) + _ = _
  rw [variance_apply, down_apply]
  rfl

/-! ## The run -/

/-- The reference runs; its result is `result` of its arguments, which stay as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans rfl, (h c).2⟩) (Value.run (F := Ideal) m ρ)

end Cert.ReferenceIdeal.Rows

end
-- ==== Proof.Algebraic.lean ====
/-
  Over the extended reals the kernel's result blocks are the blocks of the reference's result, when every element of the
  input and every weight is finite.
-/
module

public import proofs.«01_k».proof.Defs
public import proofs.«01_k».proof.Proof.RunIdeal
public import proofs.«01_k».proof.Proof.ValueIdeal
public import proofs.«01_k».proof.Proof.RefValue
public import proofs.«01_k».proof.Proof.Gen.Pre_finite_KernelIdeal
public import Idealize.ShloMosaic.Lib.ReduceAll
public import Idealize.ShloMosaic.Lib.Pipeline.ValueKit.Acc

@[expose] public section

noncomputable section

namespace Cert.Proof

open Idealize.ShloMosaic Idealize.ShloMosaic.TcCoe Idealize.ShloMosaic.ValueIdx Idealize.SL.Sem
open Cert.KernelIdeal (nD τ sig main_arg0 main_arg1 main_arg2 main_v1 main_v2 main_v3)
open Cert.KernelIdeal.Talk (blockX rowG rowB blockY)
open scoped BigOperators

/-! ## The precondition -/

/-- A number whose magnitude is below the infinite is finite. -/
theorem finite_of_lt (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  have hlt : max x (-x) < ⊤ := by
    by_contra hn
    rw [htop] at h
    have : Ideal.cmp .olt (max x (-x)) ⊤ = 0#1 := by
      show BitVec.ofBool (decide (max x (-x) < ⊤)) = 0#1
      rw [decide_eq_false hn]
      rfl
    rw [this] at h
    exact absurd h (by decide)
  induction x using EReal.rec with
  | bot => exact absurd hlt (by simp)
  | coe r => exact ⟨r, rfl⟩
  | top => exact absurd hlt (by simp)

variable (m : (ℓ : Loc nD τ sig) → Buf (Elt Ideal) ℓ)

instance : Subsingleton (⟨0, ![]⟩ : Shape).Idx := ⟨fun a b => funext fun i => i.elim0⟩

/-- A device's block of the weights. -/
abbrev weights (c : Dev nD) : FVec Ideal Cert.KernelIdeal.S512 .f32 := m ((c.tc : Thread nD τ).loc main_arg1)

/-- What the precondition says of each device's block. -/
theorem finite_args (hpre : Cert.Pre_KernelIdeal_finite_KernelIdeal m) (c : Dev nD) :
    (∀ i, ∃ r : ℝ, (blockX m c i : EReal) = r)
      ∧ ∀ i, ∃ r : ℝ, (weights m c i : EReal) = r := by
  have h := congrFun (hpre c) ix0
  obtain ⟨h0, h1⟩ := IntOp.andi_eq_one.1 h
  exact ⟨fun i => finite_of_lt _ (Host.reduce_andi_all _ _ _ _ _ h0 i),
    fun i => finite_of_lt _ (Host.reduce_andi_all _ _ _ _ _ h1 i)⟩

/-! ## The weights and offsets as the kernel finds them -/

theorem rowG_apply (c : Dev nD) (l : Fin 512) :
    rowG m c (ix2 (0 : Fin 1) l) = m ((c.tc : Thread nD τ).loc main_arg1) (ix1 l) := by
  have e : rowG m c = shapeCast Cert.KernelIdeal.S1x512 (m ((c.tc : Thread nD τ).loc main_arg1))
      Cert.KernelIdeal.Gen.shapeCasts_S512_S1x512 := by
    unfold rowG Cert.KernelIdeal.Gen.V
    after_results
    rfl
  rw [e]
  exact shapeCast_a_1a_apply _ _ 0 l

theorem rowB_apply (c : Dev nD) (l : Fin 512) :
    rowB m c (ix2 (0 : Fin 1) l) = m ((c.tc : Thread nD τ).loc main_arg2) (ix1 l) := by
  have e : rowB m c = shapeCast Cert.KernelIdeal.S1x512 (m ((c.tc : Thread nD τ).loc main_arg2))
      Cert.KernelIdeal.Gen.shapeCasts_S512_S1x512 := by
    unfold rowB Cert.KernelIdeal.Gen.V
    after_results
    rfl
  rw [e]
  exact shapeCast_a_1a_apply _ _ 0 l

/-! ## The blocks -/

/-- Column `l` of device `c`'s block, among all columns. -/
abbrev col (c : Fin 16) (l : Fin 512) : Fin 8192 := ⟨c.val * 512 + l.val, by omega⟩

theorem block_cols (c : Fin 16) (v : (⟨2, ![768, 8192]⟩ : Shape).Idx → EReal) (r : Fin 768) (l : Fin 512) :
    Layout.block ⟨2, ![768, 512]⟩ ⟨2, ![768, 8192]⟩ 1 16 c v (by decide) (ix2 r l) = v (ix2 r (col c l)) :=
  congrArg v (funext fun a => Fin.ext (by
    match a with
    | ⟨0, _⟩ => rfl
    | ⟨1, _⟩ => rfl))

theorem block_row (c : Fin 16) (v : (⟨1, ![8192]⟩ : Shape).Idx → EReal) (l : Fin 512) :
    Layout.block ⟨1, ![512]⟩ ⟨1, ![8192]⟩ 0 16 c v (by decide) (ix1 l) = v (ix1 (col c l)) :=
  congrArg v (funext fun a => Fin.ext (by
    match a with
    | ⟨0, _⟩ => rfl))

/-- Every column is one of some device's. -/
theorem col_surj (j : Fin 8192) : ∃ c l, j = col c l :=
  ⟨⟨j.val / 512, by omega⟩, ⟨j.val % 512, by omega⟩, Fin.ext (by show j.val = j.val / 512 * 512 + j.val % 512; omega)⟩

/-- A sum over the devices' columns is the sum over all columns. -/
theorem sum_cols (f : Fin 8192 → EReal) : ∑ s : Fin 16, ∑ k : Fin 512, f (col s k) = ∑ j : Fin 8192, f j :=
  Fin.sum_mul_add_fin 16 512 f

/-! ## The results -/

/-- Each device's result block is its block of the reference's result. -/
theorem blockY_eq (x : Cert.ReferenceIdeal.Rows.Arr) (g b : Cert.ReferenceIdeal.Rows.Row)
    (hpre : Cert.Pre_KernelIdeal_finite_KernelIdeal m)
    (hx : ∀ c : Dev nD, m ((c.tc : Thread nD τ).loc main_arg0) = Layout.block ⟨2, ![768, 512]⟩ ⟨2, ![768, 8192]⟩ 1 16 c x)
    (hg : ∀ c : Dev nD, m ((c.tc : Thread nD τ).loc main_arg1) = Layout.block ⟨1, ![512]⟩ ⟨1, ![8192]⟩ 0 16 c g)
    (hb : ∀ c : Dev nD, m ((c.tc : Thread nD τ).loc main_arg2) = Layout.block ⟨1, ![512]⟩ ⟨1, ![8192]⟩ 0 16 c b)
    (c : Dev nD) :
    blockY m c = Layout.block ⟨2, ![768, 512]⟩ ⟨2, ![768, 8192]⟩ 1 16 c (Cert.ReferenceIdeal.Rows.result x g b) := by
  have ex : ∀ (s : Dev nD) (r : Fin 768) (k : Fin 512), blockX m s (ix2 r k) = x (ix2 r (col s k)) := fun s r k =>
    (congrFun (hx s) (ix2 r k)).trans (block_cols s x r k)
  have eg : ∀ l : Fin 512, m ((c.tc : Thread nD τ).loc main_arg1) (ix1 l) = g (ix1 (col c l)) := fun l =>
    (congrFun (hg c) (ix1 l)).trans (block_row c g l)
  have eb : ∀ l : Fin 512, m ((c.tc : Thread nD τ).loc main_arg2) (ix1 l) = b (ix1 (col c l)) := fun l =>
    (congrFun (hb c) (ix1 l)).trans (block_row c b l)
  funext i
  obtain ⟨r, l, rfl⟩ : ∃ (r : Fin 768) (l : Fin 512), i = ix2 r l := ⟨i 0, i 1, eq_ix2 i⟩
  refine Eq.trans ?_ (block_cols c _ r l).symm
  rw [Cert.ReferenceIdeal.Rows.result_apply]
  have fx : ∀ j : Fin 8192, ∃ q : ℝ, (x (ix2 r j) : EReal) = q := fun j => by
    obtain ⟨s, k, rfl⟩ := col_surj j
    obtain ⟨q, hq⟩ := (finite_args m hpre s).1 (ix2 r k)
    exact ⟨q, (ex s r k).symm.trans hq⟩
  have fg : ∃ q : ℝ, (g (ix1 (col c l)) : EReal) = q := by
    obtain ⟨q, hq⟩ := (finite_args m hpre c).2 (ix1 l)
    exact ⟨q, (eg l).symm.trans hq⟩
  refine Eq.trans ?_ (Norm.agree (fun j => x (ix2 r j)) fx (g (ix1 (col c l))) (b (ix1 (col c l))) fg (col c l))
  refine (Cert.KernelIdeal.Talk.outOf_apply (blockX m) (blockX m c) (rowG m c) (rowB m c) r l).trans ?_
  have hS : ∑ s : Fin 16, ∑ k : Fin 512, (blockX m s (ix2 r k) : EReal) = ∑ j : Fin 8192, x (ix2 r j) :=
    (Finset.sum_congr rfl fun s _ => Finset.sum_congr rfl fun k _ => ex s r k).trans (sum_cols fun j => x (ix2 r j))
  have hQ : ∑ s : Fin 16, ∑ k : Fin 512, (blockX m s (ix2 r k) * blockX m s (ix2 r k) : EReal)
      = ∑ j : Fin 8192, x (ix2 r j) * x (ix2 r j) :=
    (Finset.sum_congr rfl fun s _ => Finset.sum_congr rfl fun k _ =>
      congrArg (fun q : EReal => q * q) (ex s r k)).trans (sum_cols fun j => x (ix2 r j) * x (ix2 r j))
  have hG : rowG m c (ix2 (0 : Fin 1) l) = g (ix1 (col c l)) := (rowG_apply m c l).trans (eg l)
  have hB : rowB m c (ix2 (0 : Fin 1) l) = b (ix1 (col c l)) := (rowB_apply m c l).trans (eb l)
  rw [hS, hQ, hG, hB, ex c r l]

/-- Both programs run, and the kernel's result blocks are the blocks of the reference's result. -/
theorem same_result : Cert.algebraic_KernelIdeal_ReferenceIdeal_pre_finite_KernelIdeal := by
  intro m g m' g' hpre hargs
  exact ⟨_, (θ_run _ _ _).mono (fun r h c => ⟨(h.1 c).2.trans (blockY_eq m _ _ _ hpre (fun c => (hargs c).1)
      (fun c => (hargs c).2.1) (fun c => (hargs c).2.2) c), (h.1 c).1⟩) (Cert.KernelIdeal.Talk.run_main (F := Ideal) m g),
    (θ_run _ _ _).mono (fun r h => h 0) (Cert.ReferenceIdeal.Rows.run m' g')⟩

end Cert.Proof

end
-- ==== Proof.lean ====
/-
  The proof of the certificate's claims: the frames of the kernel, of its reading over the extended reals and of the
  reference (Proof/Frames.lean), and the equality of the two results over the extended reals (Proof/Algebraic.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Gen.KernelIdeal.Frame
public import proofs.«01_k».proof.Proof.Gen.Kernel.Frame
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    kernel_frame, ideal_frame, fun m g _ => ideal_frame m g trivial,
    reference_frame, fun m g _ => reference_frame m g trivial,
    trivial, same_result⟩

end Cert.Proof

end
